-- ==== Defs.lean ====
def Pre_Experts [hPre_experts : Cert.Pre_experts.Facts] (m : (ℓ : Loc Cert.Experts.nD Cert.Experts.τ Cert.Experts.sig) → Buf (Elt Bits) ℓ) : Prop :=
  ∀ c : Dev Cert.Experts.nD,
    (Cert.Pre_experts.fn (F := Bits) (m ((c.tc : Thread Cert.Experts.nD Cert.Experts.τ).loc Cert.Experts.main_arg0)) (m ((c.tc : Thread Cert.Experts.nD Cert.Experts.τ).loc Cert.Experts.main_arg1)) (m ((c.tc : Thread Cert.Experts.nD Cert.Experts.τ).loc Cert.Experts.main_arg2)) (m ((c.tc : Thread Cert.Experts.nD Cert.Experts.τ).loc Cert.Experts.main_arg3)) (m ((c.tc : Thread Cert.Experts.nD Cert.Experts.τ).loc Cert.Experts.main_arg4)) (m ((c.tc : Thread Cert.Experts.nD Cert.Experts.τ).loc Cert.Experts.main_arg5))) = (fun _ => 1#1)

def Pre_ExpertsIdeal [hPre_experts : Cert.Pre_experts.Facts] (m : (ℓ : Loc Cert.ExpertsIdeal.nD Cert.ExpertsIdeal.τ Cert.ExpertsIdeal.sig) → Buf (Elt Ideal) ℓ) : Prop :=
  ∀ c : Dev Cert.ExpertsIdeal.nD,
    (Cert.Pre_experts.fn (F := Ideal) (m ((c.tc : Thread Cert.ExpertsIdeal.nD Cert.ExpertsIdeal.τ).loc Cert.ExpertsIdeal.main_arg0)) (m ((c.tc : Thread Cert.ExpertsIdeal.nD Cert.ExpertsIdeal.τ).loc Cert.ExpertsIdeal.main_arg1)) (m ((c.tc : Thread Cert.ExpertsIdeal.nD Cert.ExpertsIdeal.τ).loc Cert.ExpertsIdeal.main_arg2)) (m ((c.tc : Thread Cert.ExpertsIdeal.nD Cert.ExpertsIdeal.τ).loc Cert.ExpertsIdeal.main_arg3)) (m ((c.tc : Thread Cert.ExpertsIdeal.nD Cert.ExpertsIdeal.τ).loc Cert.ExpertsIdeal.main_arg4)) (m ((c.tc : Thread Cert.ExpertsIdeal.nD Cert.ExpertsIdeal.τ).loc Cert.ExpertsIdeal.main_arg5))) = (fun _ => 1#1)

def Pre_ExpertsReferenceIdeal [hPre_experts : Cert.Pre_experts.Facts] (m : (ℓ : Loc Cert.ExpertsReferenceIdeal.nD Cert.ExpertsReferenceIdeal.τ Cert.ExpertsReferenceIdeal.sig) → Buf (Elt Ideal) ℓ) : Prop :=
  ∀ c : Dev Cert.ExpertsReferenceIdeal.nD,
    (Cert.Pre_experts.fn (F := Ideal) (m ((c.tc : Thread Cert.ExpertsReferenceIdeal.nD Cert.ExpertsReferenceIdeal.τ).loc Cert.ExpertsReferenceIdeal.main_arg0)) (m ((c.tc : Thread Cert.ExpertsReferenceIdeal.nD Cert.ExpertsReferenceIdeal.τ).loc Cert.ExpertsReferenceIdeal.main_arg1)) (m ((c.tc : Thread Cert.ExpertsReferenceIdeal.nD Cert.ExpertsReferenceIdeal.τ).loc Cert.ExpertsReferenceIdeal.main_arg2)) (m ((c.tc : Thread Cert.ExpertsReferenceIdeal.nD Cert.ExpertsReferenceIdeal.τ).loc Cert.ExpertsReferenceIdeal.main_arg3)) (m ((c.tc : Thread Cert.ExpertsReferenceIdeal.nD Cert.ExpertsReferenceIdeal.τ).loc Cert.ExpertsReferenceIdeal.main_arg4)) (m ((c.tc : Thread Cert.ExpertsReferenceIdeal.nD Cert.ExpertsReferenceIdeal.τ).loc Cert.ExpertsReferenceIdeal.main_arg5))) = (fun _ => 1#1)

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnReferenceIdeal (m : (ℓ : Loc Cert.FfnReferenceIdeal.nD Cert.FfnReferenceIdeal.τ Cert.FfnReferenceIdeal.sig) → Buf (Elt Ideal) ℓ) : Prop :=
  True

def Pre_Fox [hPre_attends : Cert.Pre_attends.Facts] (m : (ℓ : Loc Cert.Fox.nD Cert.Fox.τ Cert.Fox.sig) → Buf (Elt Bits) ℓ) : Prop :=
  ∀ c : Dev Cert.Fox.nD,
    (Cert.Pre_attends.fn (F := Bits) (m ((c.tc : Thread Cert.Fox.nD Cert.Fox.τ).loc Cert.Fox.main_arg0)) (m ((c.tc : Thread Cert.Fox.nD Cert.Fox.τ).loc Cert.Fox.main_arg1)) (m ((c.tc : Thread Cert.Fox.nD Cert.Fox.τ).loc Cert.Fox.main_arg2)) (m ((c.tc : Thread Cert.Fox.nD Cert.Fox.τ).loc Cert.Fox.main_arg3)) (m ((c.tc : Thread Cert.Fox.nD Cert.Fox.τ).loc Cert.Fox.main_arg4)) (m ((c.tc : Thread Cert.Fox.nD Cert.Fox.τ).loc Cert.Fox.main_arg5)) (m ((c.tc : Thread Cert.Fox.nD Cert.Fox.τ).loc Cert.Fox.main_arg6))) = (fun _ => 1#1)

def Pre_FoxIdeal [hPre_attends : Cert.Pre_attends.Facts] (m : (ℓ : Loc Cert.FoxIdeal.nD Cert.FoxIdeal.τ Cert.FoxIdeal.sig) → Buf (Elt Ideal) ℓ) : Prop :=
  ∀ c : Dev Cert.FoxIdeal.nD,
    (Cert.Pre_attends.fn (F := Ideal) (m ((c.tc : Thread Cert.FoxIdeal.nD Cert.FoxIdeal.τ).loc Cert.FoxIdeal.main_arg0)) (m ((c.tc : Thread Cert.FoxIdeal.nD Cert.FoxIdeal.τ).loc Cert.FoxIdeal.main_arg1)) (m ((c.tc : Thread Cert.FoxIdeal.nD Cert.FoxIdeal.τ).loc Cert.FoxIdeal.main_arg2)) (m ((c.tc : Thread Cert.FoxIdeal.nD Cert.FoxIdeal.τ).loc Cert.FoxIdeal.main_arg3)) (m ((c.tc : Thread Cert.FoxIdeal.nD Cert.FoxIdeal.τ).loc Cert.FoxIdeal.main_arg4)) (m ((c.tc : Thread Cert.FoxIdeal.nD Cert.FoxIdeal.τ).loc Cert.FoxIdeal.main_arg5)) (m ((c.tc : Thread Cert.FoxIdeal.nD Cert.FoxIdeal.τ).loc Cert.FoxIdeal.main_arg6))) = (fun _ => 1#1)

def Pre_FoxReferenceIdeal (m : (ℓ : Loc Cert.FoxReferenceIdeal.nD Cert.FoxReferenceIdeal.τ Cert.FoxReferenceIdeal.sig) → Buf (Elt Ideal) ℓ) : Prop :=
  True

def Pre_OutProj (m : (ℓ : Loc Cert.OutProj.nD Cert.OutProj.τ Cert.OutProj.sig) → Buf (Elt Bits) ℓ) : Prop :=
  True

def Pre_OutProjIdeal (m : (ℓ : Loc Cert.OutProjIdeal.nD Cert.OutProjIdeal.τ Cert.OutProjIdeal.sig) → Buf (Elt Ideal) ℓ) : Prop :=
  True

def Pre_OutProjReferenceIdeal (m : (ℓ : Loc Cert.OutProjReferenceIdeal.nD Cert.OutProjReferenceIdeal.τ Cert.OutProjReferenceIdeal.sig) → Buf (Elt Ideal) ℓ) : Prop :=
  True

def quiescent_Experts [hExperts : Cert.Experts.Facts] [hPre_experts : Cert.Pre_experts.Facts] : Prop :=
  ∀ (m : (ℓ : Loc Cert.Experts.nD Cert.Experts.τ Cert.Experts.sig) → Buf (Elt Bits) ℓ) (g : Dev Cert.Experts.nD → PrngReg), Pre_Experts m →
    θ_run (Cert.Experts.defs (F := Bits)) (onTc (τ := Cert.Experts.τ) (Cert.Experts.main (F := Bits))) ⟨m, fun _ => 0, g⟩ (fun r => (∀ c : Dev Cert.Experts.nD,
      r.2.mem ((c.tc : Thread Cert.Experts.nD Cert.Experts.τ).loc Cert.Experts.main_arg0) = m ((c.tc : Thread Cert.Experts.nD Cert.Experts.τ).loc Cert.Experts.main_arg0)
      ∧ r.2.mem ((c.tc : Thread Cert.Experts.nD Cert.Experts.τ).loc Cert.Experts.main_arg1) = m ((c.tc : Thread Cert.Experts.nD Cert.Experts.τ).loc Cert.Experts.main_arg1)
      ∧ r.2.mem ((c.tc : Thread Cert.Experts.nD Cert.Experts.τ).loc Cert.Experts.main_arg2) = m ((c.tc : Thread Cert.Experts.nD Cert.Experts.τ).loc Cert.Experts.main_arg2)
      ∧ r.2.mem ((c.tc : Thread Cert.Experts.nD Cert.Experts.τ).loc Cert.Experts.main_arg3) = m ((c.tc : Thread Cert.Experts.nD Cert.Experts.τ).loc Cert.Experts.main_arg3)
      ∧ r.2.mem ((c.tc : Thread Cert.Experts.nD Cert.Experts.τ).loc Cert.Experts.main_arg4) = m ((c.tc : Thread Cert.Experts.nD Cert.Experts.τ).loc Cert.Experts.main_arg4)
      ∧ r.2.mem ((c.tc : Thread Cert.Experts.nD Cert.Experts.τ).loc Cert.Experts.main_arg5) = m ((c.tc : Thread Cert.Experts.nD Cert.Experts.τ).loc Cert.Experts.main_arg5))
      ∧ r.2.sem = fun _ => 0)

def quiescent_ExpertsIdeal [hExpertsIdeal : Cert.ExpertsIdeal.Facts] [hPre_experts : Cert.Pre_experts.Facts] : Prop :=
  ∀ (m : (ℓ : Loc Cert.ExpertsIdeal.nD Cert.ExpertsIdeal.τ Cert.ExpertsIdeal.sig) → Buf (Elt Ideal) ℓ) (g : Dev Cert.ExpertsIdeal.nD → PrngReg), Pre_ExpertsIdeal m →
    θ_run (Cert.ExpertsIdeal.defs (F := Ideal)) (onTc (τ := Cert.ExpertsIdeal.τ) (Cert.ExpertsIdeal.main (F := Ideal))) ⟨m, fun _ => 0, g⟩ (fun r => (∀ c : Dev Cert.ExpertsIdeal.nD,
      r.2.mem ((c.tc : Thread Cert.ExpertsIdeal.nD Cert.ExpertsIdeal.τ).loc Cert.ExpertsIdeal.main_arg0) = m ((c.tc : Thread Cert.ExpertsIdeal.nD Cert.ExpertsIdeal.τ).loc Cert.ExpertsIdeal.main_arg0)
      ∧ r.2.mem ((c.tc : Thread Cert.ExpertsIdeal.nD Cert.ExpertsIdeal.τ).loc Cert.ExpertsIdeal.main_arg1) = m ((c.tc : Thread Cert.ExpertsIdeal.nD Cert.ExpertsIdeal.τ).loc Cert.ExpertsIdeal.main_arg1)
      ∧ r.2.mem ((c.tc : Thread Cert.ExpertsIdeal.nD Cert.ExpertsIdeal.τ).loc Cert.ExpertsIdeal.main_arg2) = m ((c.tc : Thread Cert.ExpertsIdeal.nD Cert.ExpertsIdeal.τ).loc Cert.ExpertsIdeal.main_arg2)
      ∧ r.2.mem ((c.tc : Thread Cert.ExpertsIdeal.nD Cert.ExpertsIdeal.τ).loc Cert.ExpertsIdeal.main_arg3) = m ((c.tc : Thread Cert.ExpertsIdeal.nD Cert.ExpertsIdeal.τ).loc Cert.ExpertsIdeal.main_arg3)
      ∧ r.2.mem ((c.tc : Thread Cert.ExpertsIdeal.nD Cert.ExpertsIdeal.τ).loc Cert.ExpertsIdeal.main_arg4) = m ((c.tc : Thread Cert.ExpertsIdeal.nD Cert.ExpertsIdeal.τ).loc Cert.ExpertsIdeal.main_arg4)
      ∧ r.2.mem ((c.tc : Thread Cert.ExpertsIdeal.nD Cert.ExpertsIdeal.τ).loc Cert.ExpertsIdeal.main_arg5) = m ((c.tc : Thread Cert.ExpertsIdeal.nD Cert.ExpertsIdeal.τ).loc Cert.ExpertsIdeal.main_arg5))
      ∧ r.2.sem = fun _ => 0)

def quiescent_ExpertsReferenceIdeal [hExpertsReferenceIdeal : Cert.ExpertsReferenceIdeal.Facts] [hPre_experts : Cert.Pre_experts.Facts] : Prop :=
  ∀ (m : (ℓ : Loc Cert.ExpertsReferenceIdeal.nD Cert.ExpertsReferenceIdeal.τ Cert.ExpertsReferenceIdeal.sig) → Buf (Elt Ideal) ℓ) (g : Dev Cert.ExpertsReferenceIdeal.nD → PrngReg), Pre_ExpertsReferenceIdeal m →
    θ_run (Cert.ExpertsReferenceIdeal.defs (F := Ideal)) (onTc (τ := Cert.ExpertsReferenceIdeal.τ) (Cert.ExpertsReferenceIdeal.main (F := Ideal))) ⟨m, fun _ => 0, g⟩ (fun r => (∀ c : Dev Cert.ExpertsReferenceIdeal.nD,
      r.2.mem ((c.tc : Thread Cert.ExpertsReferenceIdeal.nD Cert.ExpertsReferenceIdeal.τ).loc Cert.ExpertsReferenceIdeal.main_arg0) = m ((c.tc : Thread Cert.ExpertsReferenceIdeal.nD Cert.ExpertsReferenceIdeal.τ).loc Cert.ExpertsReferenceIdeal.main_arg0)
      ∧ r.2.mem ((c.tc : Thread Cert.ExpertsReferenceIdeal.nD Cert.ExpertsReferenceIdeal.τ).loc Cert.ExpertsReferenceIdeal.main_arg1) = m ((c.tc : Thread Cert.ExpertsReferenceIdeal.nD Cert.ExpertsReferenceIdeal.τ).loc Cert.ExpertsReferenceIdeal.main_arg1)
      ∧ r.2.mem ((c.tc : Thread Cert.ExpertsReferenceIdeal.nD Cert.ExpertsReferenceIdeal.τ).loc Cert.ExpertsReferenceIdeal.main_arg2) = m ((c.tc : Thread Cert.ExpertsReferenceIdeal.nD Cert.ExpertsReferenceIdeal.τ).loc Cert.ExpertsReferenceIdeal.main_arg2)
      ∧ r.2.mem ((c.tc : Thread Cert.ExpertsReferenceIdeal.nD Cert.ExpertsReferenceIdeal.τ).loc Cert.ExpertsReferenceIdeal.main_arg3) = m ((c.tc : Thread Cert.ExpertsReferenceIdeal.nD Cert.ExpertsReferenceIdeal.τ).loc Cert.ExpertsReferenceIdeal.main_arg3)
      ∧ r.2.mem ((c.tc : Thread Cert.ExpertsReferenceIdeal.nD Cert.ExpertsReferenceIdeal.τ).loc Cert.ExpertsReferenceIdeal.main_arg4) = m ((c.tc : Thread Cert.ExpertsReferenceIdeal.nD Cert.ExpertsReferenceIdeal.τ).loc Cert.ExpertsReferenceIdeal.main_arg4)
      ∧ r.2.mem ((c.tc : Thread Cert.ExpertsReferenceIdeal.nD Cert.ExpertsReferenceIdeal.τ).loc Cert.ExpertsReferenceIdeal.main_arg5) = m ((c.tc : Thread Cert.ExpertsReferenceIdeal.nD Cert.ExpertsReferenceIdeal.τ).loc Cert.ExpertsReferenceIdeal.main_arg5))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4))
      ∧ r.2.sem = fun _ => 0)

def quiescent_FfnReferenceIdeal [hFfnReferenceIdeal : Cert.FfnReferenceIdeal.Facts] : Prop :=
  ∀ (m : (ℓ : Loc Cert.FfnReferenceIdeal.nD Cert.FfnReferenceIdeal.τ Cert.FfnReferenceIdeal.sig) → Buf (Elt Ideal) ℓ) (g : Dev Cert.FfnReferenceIdeal.nD → PrngReg), Pre_FfnReferenceIdeal m →
    θ_run (Cert.FfnReferenceIdeal.defs (F := Ideal)) (onTc (τ := Cert.FfnReferenceIdeal.τ) (Cert.FfnReferenceIdeal.main (F := Ideal))) ⟨m, fun _ => 0, g⟩ (fun r => (∀ c : Dev Cert.FfnReferenceIdeal.nD,
      r.2.mem ((c.tc : Thread Cert.FfnReferenceIdeal.nD Cert.FfnReferenceIdeal.τ).loc Cert.FfnReferenceIdeal.main_arg0) = m ((c.tc : Thread Cert.FfnReferenceIdeal.nD Cert.FfnReferenceIdeal.τ).loc Cert.FfnReferenceIdeal.main_arg0)
      ∧ r.2.mem ((c.tc : Thread Cert.FfnReferenceIdeal.nD Cert.FfnReferenceIdeal.τ).loc Cert.FfnReferenceIdeal.main_arg1) = m ((c.tc : Thread Cert.FfnReferenceIdeal.nD Cert.FfnReferenceIdeal.τ).loc Cert.FfnReferenceIdeal.main_arg1)
      ∧ r.2.mem ((c.tc : Thread Cert.FfnReferenceIdeal.nD Cert.FfnReferenceIdeal.τ).loc Cert.FfnReferenceIdeal.main_arg2) = m ((c.tc : Thread Cert.FfnReferenceIdeal.nD Cert.FfnReferenceIdeal.τ).loc Cert.FfnReferenceIdeal.main_arg2)
      ∧ r.2.mem ((c.tc : Thread Cert.FfnReferenceIdeal.nD Cert.FfnReferenceIdeal.τ).loc Cert.FfnReferenceIdeal.main_arg3) = m ((c.tc : Thread Cert.FfnReferenceIdeal.nD Cert.FfnReferenceIdeal.τ).loc Cert.FfnReferenceIdeal.main_arg3)
      ∧ r.2.mem ((c.tc : Thread Cert.FfnReferenceIdeal.nD Cert.FfnReferenceIdeal.τ).loc Cert.FfnReferenceIdeal.main_arg4) = m ((c.tc : Thread Cert.FfnReferenceIdeal.nD Cert.FfnReferenceIdeal.τ).loc Cert.FfnReferenceIdeal.main_arg4))
      ∧ r.2.sem = fun _ => 0)

def quiescent_Fox [hFox : Cert.Fox.Facts] [hPre_attends : Cert.Pre_attends.Facts] : Prop :=
  ∀ (m : (ℓ : Loc Cert.Fox.nD Cert.Fox.τ Cert.Fox.sig) → Buf (Elt Bits) ℓ) (g : Dev Cert.Fox.nD → PrngReg), Pre_Fox m →
    θ_run (Cert.Fox.defs (F := Bits)) (onTc (τ := Cert.Fox.τ) (Cert.Fox.main (F := Bits))) ⟨m, fun _ => 0, g⟩ (fun r => (∀ c : Dev Cert.Fox.nD,
      r.2.mem ((c.tc : Thread Cert.Fox.nD Cert.Fox.τ).loc Cert.Fox.main_arg0) = m ((c.tc : Thread Cert.Fox.nD Cert.Fox.τ).loc Cert.Fox.main_arg0)
      ∧ r.2.mem ((c.tc : Thread Cert.Fox.nD Cert.Fox.τ).loc Cert.Fox.main_arg1) = m ((c.tc : Thread Cert.Fox.nD Cert.Fox.τ).loc Cert.Fox.main_arg1)
      ∧ r.2.mem ((c.tc : Thread Cert.Fox.nD Cert.Fox.τ).loc Cert.Fox.main_arg2) = m ((c.tc : Thread Cert.Fox.nD Cert.Fox.τ).loc Cert.Fox.main_arg2)
      ∧ r.2.mem ((c.tc : Thread Cert.Fox.nD Cert.Fox.τ).loc Cert.Fox.main_arg3) = m ((c.tc : Thread Cert.Fox.nD Cert.Fox.τ).loc Cert.Fox.main_arg3)
      ∧ r.2.mem ((c.tc : Thread Cert.Fox.nD Cert.Fox.τ).loc Cert.Fox.main_arg4) = m ((c.tc : Thread Cert.Fox.nD Cert.Fox.τ).loc Cert.Fox.main_arg4)
      ∧ r.2.mem ((c.tc : Thread Cert.Fox.nD Cert.Fox.τ).loc Cert.Fox.main_arg5) = m ((c.tc : Thread Cert.Fox.nD Cert.Fox.τ).loc Cert.Fox.main_arg5)
      ∧ r.2.mem ((c.tc : Thread Cert.Fox.nD Cert.Fox.τ).loc Cert.Fox.main_arg6) = m ((c.tc : Thread Cert.Fox.nD Cert.Fox.τ).loc Cert.Fox.main_arg6))
      ∧ r.2.sem = fun _ => 0)

def quiescent_FoxIdeal [hFoxIdeal : Cert.FoxIdeal.Facts] [hPre_attends : Cert.Pre_attends.Facts] : Prop :=
  ∀ (m : (ℓ : Loc Cert.FoxIdeal.nD Cert.FoxIdeal.τ Cert.FoxIdeal.sig) → Buf (Elt Ideal) ℓ) (g : Dev Cert.FoxIdeal.nD → PrngReg), Pre_FoxIdeal m →
    θ_run (Cert.FoxIdeal.defs (F := Ideal)) (onTc (τ := Cert.FoxIdeal.τ) (Cert.FoxIdeal.main (F := Ideal))) ⟨m, fun _ => 0, g⟩ (fun r => (∀ c : Dev Cert.FoxIdeal.nD,
      r.2.mem ((c.tc : Thread Cert.FoxIdeal.nD Cert.FoxIdeal.τ).loc Cert.FoxIdeal.main_arg0) = m ((c.tc : Thread Cert.FoxIdeal.nD Cert.FoxIdeal.τ).loc Cert.FoxIdeal.main_arg0)
      ∧ r.2.mem ((c.tc : Thread Cert.FoxIdeal.nD Cert.FoxIdeal.τ).loc Cert.FoxIdeal.main_arg1) = m ((c.tc : Thread Cert.FoxIdeal.nD Cert.FoxIdeal.τ).loc Cert.FoxIdeal.main_arg1)
      ∧ r.2.mem ((c.tc : Thread Cert.FoxIdeal.nD Cert.FoxIdeal.τ).loc Cert.FoxIdeal.main_arg2) = m ((c.tc : Thread Cert.FoxIdeal.nD Cert.FoxIdeal.τ).loc Cert.FoxIdeal.main_arg2)
      ∧ r.2.mem ((c.tc : Thread Cert.FoxIdeal.nD Cert.FoxIdeal.τ).loc Cert.FoxIdeal.main_arg3) = m ((c.tc : Thread Cert.FoxIdeal.nD Cert.FoxIdeal.τ).loc Cert.FoxIdeal.main_arg3)
      ∧ r.2.mem ((c.tc : Thread Cert.FoxIdeal.nD Cert.FoxIdeal.τ).loc Cert.FoxIdeal.main_arg4) = m ((c.tc : Thread Cert.FoxIdeal.nD Cert.FoxIdeal.τ).loc Cert.FoxIdeal.main_arg4)
      ∧ r.2.mem ((c.tc : Thread Cert.FoxIdeal.nD Cert.FoxIdeal.τ).loc Cert.FoxIdeal.main_arg5) = m ((c.tc : Thread Cert.FoxIdeal.nD Cert.FoxIdeal.τ).loc Cert.FoxIdeal.main_arg5)
      ∧ r.2.mem ((c.tc : Thread Cert.FoxIdeal.nD Cert.FoxIdeal.τ).loc Cert.FoxIdeal.main_arg6) = m ((c.tc : Thread Cert.FoxIdeal.nD Cert.FoxIdeal.τ).loc Cert.FoxIdeal.main_arg6))
      ∧ r.2.sem = fun _ => 0)

def quiescent_FoxReferenceIdeal [hFoxReferenceIdeal : Cert.FoxReferenceIdeal.Facts] : Prop :=
  ∀ (m : (ℓ : Loc Cert.FoxReferenceIdeal.nD Cert.FoxReferenceIdeal.τ Cert.FoxReferenceIdeal.sig) → Buf (Elt Ideal) ℓ) (g : Dev Cert.FoxReferenceIdeal.nD → PrngReg), Pre_FoxReferenceIdeal m →
    θ_run (Cert.FoxReferenceIdeal.defs (F := Ideal)) (onTc (τ := Cert.FoxReferenceIdeal.τ) (Cert.FoxReferenceIdeal.main (F := Ideal))) ⟨m, fun _ => 0, g⟩ (fun r => (∀ c : Dev Cert.FoxReferenceIdeal.nD,
      r.2.mem ((c.tc : Thread Cert.FoxReferenceIdeal.nD Cert.FoxReferenceIdeal.τ).loc Cert.FoxReferenceIdeal.main_arg0) = m ((c.tc : Thread Cert.FoxReferenceIdeal.nD Cert.FoxReferenceIdeal.τ).loc Cert.FoxReferenceIdeal.main_arg0)
      ∧ r.2.mem ((c.tc : Thread Cert.FoxReferenceIdeal.nD Cert.FoxReferenceIdeal.τ).loc Cert.FoxReferenceIdeal.main_arg1) = m ((c.tc : Thread Cert.FoxReferenceIdeal.nD Cert.FoxReferenceIdeal.τ).loc Cert.FoxReferenceIdeal.main_arg1)
      ∧ r.2.mem ((c.tc : Thread Cert.FoxReferenceIdeal.nD Cert.FoxReferenceIdeal.τ).loc Cert.FoxReferenceIdeal.main_arg2) = m ((c.tc : Thread Cert.FoxReferenceIdeal.nD Cert.FoxReferenceIdeal.τ).loc Cert.FoxReferenceIdeal.main_arg2)
      ∧ r.2.mem ((c.tc : Thread Cert.FoxReferenceIdeal.nD Cert.FoxReferenceIdeal.τ).loc Cert.FoxReferenceIdeal.main_arg3) = m ((c.tc : Thread Cert.FoxReferenceIdeal.nD Cert.FoxReferenceIdeal.τ).loc Cert.FoxReferenceIdeal.main_arg3)
      ∧ r.2.mem ((c.tc : Thread Cert.FoxReferenceIdeal.nD Cert.FoxReferenceIdeal.τ).loc Cert.FoxReferenceIdeal.main_arg4) = m ((c.tc : Thread Cert.FoxReferenceIdeal.nD Cert.FoxReferenceIdeal.τ).loc Cert.FoxReferenceIdeal.main_arg4)
      ∧ r.2.mem ((c.tc : Thread Cert.FoxReferenceIdeal.nD Cert.FoxReferenceIdeal.τ).loc Cert.FoxReferenceIdeal.main_arg5) = m ((c.tc : Thread Cert.FoxReferenceIdeal.nD Cert.FoxReferenceIdeal.τ).loc Cert.FoxReferenceIdeal.main_arg5)
      ∧ r.2.mem ((c.tc : Thread Cert.FoxReferenceIdeal.nD Cert.FoxReferenceIdeal.τ).loc Cert.FoxReferenceIdeal.main_arg6) = m ((c.tc : Thread Cert.FoxReferenceIdeal.nD Cert.FoxReferenceIdeal.τ).loc Cert.FoxReferenceIdeal.main_arg6))
      ∧ r.2.sem = fun _ => 0)

def quiescent_OutProj [hOutProj : Cert.OutProj.Facts] : Prop :=
  ∀ (m : (ℓ : Loc Cert.OutProj.nD Cert.OutProj.τ Cert.OutProj.sig) → Buf (Elt Bits) ℓ) (g : Dev Cert.OutProj.nD → PrngReg), Pre_OutProj m →
    θ_run (Cert.OutProj.defs (F := Bits)) (onTc (τ := Cert.OutProj.τ) (Cert.OutProj.main (F := Bits))) ⟨m, fun _ => 0, g⟩ (fun r => (∀ c : Dev Cert.OutProj.nD,
      r.2.mem ((c.tc : Thread Cert.OutProj.nD Cert.OutProj.τ).loc Cert.OutProj.main_arg0) = m ((c.tc : Thread Cert.OutProj.nD Cert.OutProj.τ).loc Cert.OutProj.main_arg0)
      ∧ r.2.mem ((c.tc : Thread Cert.OutProj.nD Cert.OutProj.τ).loc Cert.OutProj.main_arg1) = m ((c.tc : Thread Cert.OutProj.nD Cert.OutProj.τ).loc Cert.OutProj.main_arg1)
      ∧ r.2.mem ((c.tc : Thread Cert.OutProj.nD Cert.OutProj.τ).loc Cert.OutProj.main_arg2) = m ((c.tc : Thread Cert.OutProj.nD Cert.OutProj.τ).loc Cert.OutProj.main_arg2)
      ∧ r.2.mem ((c.tc : Thread Cert.OutProj.nD Cert.OutProj.τ).loc Cert.OutProj.main_arg3) = m ((c.tc : Thread Cert.OutProj.nD Cert.OutProj.τ).loc Cert.OutProj.main_arg3)
      ∧ r.2.mem ((c.tc : Thread Cert.OutProj.nD Cert.OutProj.τ).loc Cert.OutProj.main_arg4) = m ((c.tc : Thread Cert.OutProj.nD Cert.OutProj.τ).loc Cert.OutProj.main_arg4))
      ∧ r.2.sem = fun _ => 0)

def quiescent_OutProjIdeal [hOutProjIdeal : Cert.OutProjIdeal.Facts] : Prop :=
  ∀ (m : (ℓ : Loc Cert.OutProjIdeal.nD Cert.OutProjIdeal.τ Cert.OutProjIdeal.sig) → Buf (Elt Ideal) ℓ) (g : Dev Cert.OutProjIdeal.nD → PrngReg), Pre_OutProjIdeal m →
    θ_run (Cert.OutProjIdeal.defs (F := Ideal)) (onTc (τ := Cert.OutProjIdeal.τ) (Cert.OutProjIdeal.main (F := Ideal))) ⟨m, fun _ => 0, g⟩ (fun r => (∀ c : Dev Cert.OutProjIdeal.nD,
      r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
      ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
      ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2)
      ∧ r.2.mem ((c.tc : Thread Cert.OutProjIdeal.nD Cert.OutProjIdeal.τ).loc Cert.OutProjIdeal.main_arg3) = m ((c.tc : Thread Cert.OutProjIdeal.nD Cert.OutProjIdeal.τ).loc Cert.OutProjIdeal.main_arg3)
      ∧ r.2.mem ((c.tc : Thread Cert.OutProjIdeal.nD Cert.OutProjIdeal.τ).loc Cert.OutProjIdeal.main_arg4) = m ((c.tc : Thread Cert.OutProjIdeal.nD Cert.OutProjIdeal.τ).loc Cert.OutProjIdeal.main_arg4))
      ∧ r.2.sem = fun _ => 0)

def quiescent_OutProjReferenceIdeal [hOutProjReferenceIdeal : Cert.OutProjReferenceIdeal.Facts] : Prop :=
  ∀ (m : (ℓ : Loc Cert.OutProjReferenceIdeal.nD Cert.OutProjReferenceIdeal.τ Cert.OutProjReferenceIdeal.sig) → Buf (Elt Ideal) ℓ) (g : Dev Cert.OutProjReferenceIdeal.nD → PrngReg), Pre_OutProjReferenceIdeal m →
    θ_run (Cert.OutProjReferenceIdeal.defs (F := Ideal)) (onTc (τ := Cert.OutProjReferenceIdeal.τ) (Cert.OutProjReferenceIdeal.main (F := Ideal))) ⟨m, fun _ => 0, g⟩ (fun r => (∀ c : Dev Cert.OutProjReferenceIdeal.nD,
      r.2.mem ((c.tc : Thread Cert.OutProjReferenceIdeal.nD Cert.OutProjReferenceIdeal.τ).loc Cert.OutProjReferenceIdeal.main_arg0) = m ((c.tc : Thread Cert.OutProjReferenceIdeal.nD Cert.OutProjReferenceIdeal.τ).loc Cert.OutProjReferenceIdeal.main_arg0)
      ∧ r.2.mem ((c.tc : Thread Cert.OutProjReferenceIdeal.nD Cert.OutProjReferenceIdeal.τ).loc Cert.OutProjReferenceIdeal.main_arg1) = m ((c.tc : Thread Cert.OutProjReferenceIdeal.nD Cert.OutProjReferenceIdeal.τ).loc Cert.OutProjReferenceIdeal.main_arg1)
      ∧ r.2.mem ((c.tc : Thread Cert.OutProjReferenceIdeal.nD Cert.OutProjReferenceIdeal.τ).loc Cert.OutProjReferenceIdeal.main_arg2) = m ((c.tc : Thread Cert.OutProjReferenceIdeal.nD Cert.OutProjReferenceIdeal.τ).loc Cert.OutProjReferenceIdeal.main_arg2)
      ∧ r.2.mem ((c.tc : Thread Cert.OutProjReferenceIdeal.nD Cert.OutProjReferenceIdeal.τ).loc Cert.OutProjReferenceIdeal.main_arg3) = m ((c.tc : Thread Cert.OutProjReferenceIdeal.nD Cert.OutProjReferenceIdeal.τ).loc Cert.OutProjReferenceIdeal.main_arg3)
      ∧ r.2.mem ((c.tc : Thread Cert.OutProjReferenceIdeal.nD Cert.OutProjReferenceIdeal.τ).loc Cert.OutProjReferenceIdeal.main_arg4) = m ((c.tc : Thread Cert.OutProjReferenceIdeal.nD Cert.OutProjReferenceIdeal.τ).loc Cert.OutProjReferenceIdeal.main_arg4))
      ∧ r.2.sem = fun _ => 0)

def preserves_Experts_ExpertsIdeal : Prop :=
  True

def algebraic_ExpertsIdeal_ExpertsReferenceIdeal [hExpertsIdeal : Cert.ExpertsIdeal.Facts] [hExpertsReferenceIdeal : Cert.ExpertsReferenceIdeal.Facts] [hPre_experts : Cert.Pre_experts.Facts] : Prop :=
  ∀ (m : (ℓ : Loc Cert.ExpertsIdeal.nD Cert.ExpertsIdeal.τ Cert.ExpertsIdeal.sig) → Buf (Elt Ideal) ℓ) (g : Dev Cert.ExpertsIdeal.nD → PrngReg)
    (m' : (ℓ : Loc Cert.ExpertsReferenceIdeal.nD Cert.ExpertsReferenceIdeal.τ Cert.ExpertsReferenceIdeal.sig) → Buf (Elt Ideal) ℓ) (g' : Dev Cert.ExpertsReferenceIdeal.nD → PrngReg), Pre_ExpertsIdeal m →
    (∀ c : Dev Cert.ExpertsIdeal.nD,
      m' ((c.tc : Thread Cert.ExpertsReferenceIdeal.nD Cert.ExpertsReferenceIdeal.τ).loc Cert.ExpertsReferenceIdeal.main_arg0) = m ((c.tc : Thread Cert.ExpertsIdeal.nD Cert.ExpertsIdeal.τ).loc Cert.ExpertsIdeal.main_arg0)
      ∧ m' ((c.tc : Thread Cert.ExpertsReferenceIdeal.nD Cert.ExpertsReferenceIdeal.τ).loc Cert.ExpertsReferenceIdeal.main_arg1) = m ((c.tc : Thread Cert.ExpertsIdeal.nD Cert.ExpertsIdeal.τ).loc Cert.ExpertsIdeal.main_arg1)
      ∧ m' ((c.tc : Thread Cert.ExpertsReferenceIdeal.nD Cert.ExpertsReferenceIdeal.τ).loc Cert.ExpertsReferenceIdeal.main_arg2) = m ((c.tc : Thread Cert.ExpertsIdeal.nD Cert.ExpertsIdeal.τ).loc Cert.ExpertsIdeal.main_arg2)
      ∧ m' ((c.tc : Thread Cert.ExpertsReferenceIdeal.nD Cert.ExpertsReferenceIdeal.τ).loc Cert.ExpertsReferenceIdeal.main_arg3) = m ((c.tc : Thread Cert.ExpertsIdeal.nD Cert.ExpertsIdeal.τ).loc Cert.ExpertsIdeal.main_arg3)
      ∧ m' ((c.tc : Thread Cert.ExpertsReferenceIdeal.nD Cert.ExpertsReferenceIdeal.τ).loc Cert.ExpertsReferenceIdeal.main_arg4) = m ((c.tc : Thread Cert.ExpertsIdeal.nD Cert.ExpertsIdeal.τ).loc Cert.ExpertsIdeal.main_arg4)
      ∧ m' ((c.tc : Thread Cert.ExpertsReferenceIdeal.nD Cert.ExpertsReferenceIdeal.τ).loc Cert.ExpertsReferenceIdeal.main_arg5) = m ((c.tc : Thread Cert.ExpertsIdeal.nD Cert.ExpertsIdeal.τ).loc Cert.ExpertsIdeal.main_arg5)) →
    ∃ (v0 : (c : Dev Cert.ExpertsIdeal.nD) → Buf (Elt Ideal) ((c.tc : Thread Cert.ExpertsIdeal.nD Cert.ExpertsIdeal.τ).loc Cert.ExpertsIdeal.main_v0)),
      θ_run (Cert.ExpertsIdeal.defs (F := Ideal)) (onTc (τ := Cert.ExpertsIdeal.τ) (Cert.ExpertsIdeal.main (F := Ideal))) ⟨m, fun _ => 0, g⟩ (fun r => ∀ c : Dev Cert.ExpertsIdeal.nD,
          r.2.mem ((c.tc : Thread Cert.ExpertsIdeal.nD Cert.ExpertsIdeal.τ).loc Cert.ExpertsIdeal.main_v0) = v0 c
          ∧ r.2.mem ((c.tc : Thread Cert.ExpertsIdeal.nD Cert.ExpertsIdeal.τ).loc Cert.ExpertsIdeal.main_arg0) = m ((c.tc : Thread Cert.ExpertsIdeal.nD Cert.ExpertsIdeal.τ).loc Cert.ExpertsIdeal.main_arg0)
          ∧ r.2.mem ((c.tc : Thread Cert.ExpertsIdeal.nD Cert.ExpertsIdeal.τ).loc Cert.ExpertsIdeal.main_arg1) = m ((c.tc : Thread Cert.ExpertsIdeal.nD Cert.ExpertsIdeal.τ).loc Cert.ExpertsIdeal.main_arg1)
          ∧ r.2.mem ((c.tc : Thread Cert.ExpertsIdeal.nD Cert.ExpertsIdeal.τ).loc Cert.ExpertsIdeal.main_arg2) = m ((c.tc : Thread Cert.ExpertsIdeal.nD Cert.ExpertsIdeal.τ).loc Cert.ExpertsIdeal.main_arg2)
          ∧ r.2.mem ((c.tc : Thread Cert.ExpertsIdeal.nD Cert.ExpertsIdeal.τ).loc Cert.ExpertsIdeal.main_arg3) = m ((c.tc : Thread Cert.ExpertsIdeal.nD Cert.ExpertsIdeal.τ).loc Cert.ExpertsIdeal.main_arg3)
          ∧ r.2.mem ((c.tc : Thread Cert.ExpertsIdeal.nD Cert.ExpertsIdeal.τ).loc Cert.ExpertsIdeal.main_arg4) = m ((c.tc : Thread Cert.ExpertsIdeal.nD Cert.ExpertsIdeal.τ).loc Cert.ExpertsIdeal.main_arg4)
          ∧ r.2.mem ((c.tc : Thread Cert.ExpertsIdeal.nD Cert.ExpertsIdeal.τ).loc Cert.ExpertsIdeal.main_arg5) = m ((c.tc : Thread Cert.ExpertsIdeal.nD Cert.ExpertsIdeal.τ).loc Cert.ExpertsIdeal.main_arg5))
      ∧ θ_run (Cert.ExpertsReferenceIdeal.defs (F := Ideal)) (onTc (τ := Cert.ExpertsReferenceIdeal.τ) (Cert.ExpertsReferenceIdeal.main (F := Ideal))) ⟨m', fun _ => 0, g'⟩ (fun r => ∀ c : Dev Cert.ExpertsReferenceIdeal.nD,
          r.2.mem ((c.tc : Thread Cert.ExpertsReferenceIdeal.nD Cert.ExpertsReferenceIdeal.τ).loc Cert.ExpertsReferenceIdeal.main_v143) = v0 c
          ∧ r.2.mem ((c.tc : Thread Cert.ExpertsReferenceIdeal.nD Cert.ExpertsReferenceIdeal.τ).loc Cert.ExpertsReferenceIdeal.main_arg0) = m' ((c.tc : Thread Cert.ExpertsReferenceIdeal.nD Cert.ExpertsReferenceIdeal.τ).loc Cert.ExpertsReferenceIdeal.main_arg0)
          ∧ r.2.mem ((c.tc : Thread Cert.ExpertsReferenceIdeal.nD Cert.ExpertsReferenceIdeal.τ).loc Cert.ExpertsReferenceIdeal.main_arg1) = m' ((c.tc : Thread Cert.ExpertsReferenceIdeal.nD Cert.ExpertsReferenceIdeal.τ).loc Cert.ExpertsReferenceIdeal.main_arg1)
          ∧ r.2.mem ((c.tc : Thread Cert.ExpertsReferenceIdeal.nD Cert.ExpertsReferenceIdeal.τ).loc Cert.ExpertsReferenceIdeal.main_arg2) = m' ((c.tc : Thread Cert.ExpertsReferenceIdeal.nD Cert.ExpertsReferenceIdeal.τ).loc Cert.ExpertsReferenceIdeal.main_arg2)
          ∧ r.2.mem ((c.tc : Thread Cert.ExpertsReferenceIdeal.nD Cert.ExpertsReferenceIdeal.τ).loc Cert.ExpertsReferenceIdeal.main_arg3) = m' ((c.tc : Thread Cert.ExpertsReferenceIdeal.nD Cert.ExpertsReferenceIdeal.τ).loc Cert.ExpertsReferenceIdeal.main_arg3)
          ∧ r.2.mem ((c.tc : Thread Cert.ExpertsReferenceIdeal.nD Cert.ExpertsReferenceIdeal.τ).loc Cert.ExpertsReferenceIdeal.main_arg4) = m' ((c.tc : Thread Cert.ExpertsReferenceIdeal.nD Cert.ExpertsReferenceIdeal.τ).loc Cert.ExpertsReferenceIdeal.main_arg4)
          ∧ r.2.mem ((c.tc : Thread Cert.ExpertsReferenceIdeal.nD Cert.ExpertsReferenceIdeal.τ).loc Cert.ExpertsReferenceIdeal.main_arg5) = m' ((c.tc : Thread Cert.ExpertsReferenceIdeal.nD Cert.ExpertsReferenceIdeal.τ).loc Cert.ExpertsReferenceIdeal.main_arg5))

def preserves_Ffn_FfnIdeal : Prop :=
  True

def algebraic_FfnIdeal_FfnReferenceIdeal [hFfnIdeal : Cert.FfnIdeal.Facts] [hFfnReferenceIdeal : Cert.FfnReferenceIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnReferenceIdeal.nD Cert.FfnReferenceIdeal.τ Cert.FfnReferenceIdeal.sig) → Buf (Elt Ideal) ℓ) (g' : Dev Cert.FfnReferenceIdeal.nD → PrngReg), Pre_FfnIdeal m →
    (∀ c : Dev Cert.FfnIdeal.nD,
      m' ((c.tc : Thread Cert.FfnReferenceIdeal.nD Cert.FfnReferenceIdeal.τ).loc Cert.FfnReferenceIdeal.main_arg0) = m ((c.tc : Thread Cert.FfnIdeal.nD Cert.FfnIdeal.τ).loc Cert.FfnIdeal.main_arg0)
      ∧ m' ((c.tc : Thread Cert.FfnReferenceIdeal.nD Cert.FfnReferenceIdeal.τ).loc Cert.FfnReferenceIdeal.main_arg1) = m ((c.tc : Thread Cert.FfnIdeal.nD Cert.FfnIdeal.τ).loc Cert.FfnIdeal.main_arg1)
      ∧ m' ((c.tc : Thread Cert.FfnReferenceIdeal.nD Cert.FfnReferenceIdeal.τ).loc Cert.FfnReferenceIdeal.main_arg2) = m ((c.tc : Thread Cert.FfnIdeal.nD Cert.FfnIdeal.τ).loc Cert.FfnIdeal.main_arg2)
      ∧ m' ((c.tc : Thread Cert.FfnReferenceIdeal.nD Cert.FfnReferenceIdeal.τ).loc Cert.FfnReferenceIdeal.main_arg3) = m ((c.tc : Thread Cert.FfnIdeal.nD Cert.FfnIdeal.τ).loc Cert.FfnIdeal.main_arg3)
      ∧ m' ((c.tc : Thread Cert.FfnReferenceIdeal.nD Cert.FfnReferenceIdeal.τ).loc Cert.FfnReferenceIdeal.main_arg4) = m ((c.tc : Thread Cert.FfnIdeal.nD Cert.FfnIdeal.τ).loc Cert.FfnIdeal.main_arg4)) →
    ∃ (v0 : (c : Dev Cert.FfnIdeal.nD) → Buf (Elt Ideal) ((c.tc : Thread Cert.FfnIdeal.nD Cert.FfnIdeal.τ).loc Cert.FfnIdeal.main_v0)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v0) = v0 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4))
      ∧ θ_run (Cert.FfnReferenceIdeal.defs (F := Ideal)) (onTc (τ := Cert.FfnReferenceIdeal.τ) (Cert.FfnReferenceIdeal.main (F := Ideal))) ⟨m', fun _ => 0, g'⟩ (fun r => ∀ c : Dev Cert.FfnReferenceIdeal.nD,
          r.2.mem ((c.tc : Thread Cert.FfnReferenceIdeal.nD Cert.FfnReferenceIdeal.τ).loc Cert.FfnReferenceIdeal.main_v17) = v0 c
          ∧ r.2.mem ((c.tc : Thread Cert.FfnReferenceIdeal.nD Cert.FfnReferenceIdeal.τ).loc Cert.FfnReferenceIdeal.main_arg0) = m' ((c.tc : Thread Cert.FfnReferenceIdeal.nD Cert.FfnReferenceIdeal.τ).loc Cert.FfnReferenceIdeal.main_arg0)
          ∧ r.2.mem ((c.tc : Thread Cert.FfnReferenceIdeal.nD Cert.FfnReferenceIdeal.τ).loc Cert.FfnReferenceIdeal.main_arg1) = m' ((c.tc : Thread Cert.FfnReferenceIdeal.nD Cert.FfnReferenceIdeal.τ).loc Cert.FfnReferenceIdeal.main_arg1)
          ∧ r.2.mem ((c.tc : Thread Cert.FfnReferenceIdeal.nD Cert.FfnReferenceIdeal.τ).loc Cert.FfnReferenceIdeal.main_arg2) = m' ((c.tc : Thread Cert.FfnReferenceIdeal.nD Cert.FfnReferenceIdeal.τ).loc Cert.FfnReferenceIdeal.main_arg2)
          ∧ r.2.mem ((c.tc : Thread Cert.FfnReferenceIdeal.nD Cert.FfnReferenceIdeal.τ).loc Cert.FfnReferenceIdeal.main_arg3) = m' ((c.tc : Thread Cert.FfnReferenceIdeal.nD Cert.FfnReferenceIdeal.τ).loc Cert.FfnReferenceIdeal.main_arg3)
          ∧ r.2.mem ((c.tc : Thread Cert.FfnReferenceIdeal.nD Cert.FfnReferenceIdeal.τ).loc Cert.FfnReferenceIdeal.main_arg4) = m' ((c.tc : Thread Cert.FfnReferenceIdeal.nD Cert.FfnReferenceIdeal.τ).loc Cert.FfnReferenceIdeal.main_arg4))

def preserves_Fox_FoxIdeal : Prop :=
  IdealRules.named_const.Statement Cert.FoxIdeal.κ "mask" .f32 0xF149F2CA#32 ⊥

def preserves_OutProj_OutProjIdeal : Prop :=
  True

def algebraic_OutProjIdeal_OutProjReferenceIdeal [hOutProjIdeal : Cert.OutProjIdeal.Facts] [hOutProjReferenceIdeal : Cert.OutProjReferenceIdeal.Facts] : Prop :=
  ∀ (m : (ℓ : Loc Cert.OutProjIdeal.nD Cert.OutProjIdeal.τ Cert.OutProjIdeal.sig) → Buf (Elt Ideal) ℓ) (g : Dev Cert.OutProjIdeal.nD → PrngReg)
    (m' : (ℓ : Loc Cert.OutProjReferenceIdeal.nD Cert.OutProjReferenceIdeal.τ Cert.OutProjReferenceIdeal.sig) → Buf (Elt Ideal) ℓ) (g' : Dev Cert.OutProjReferenceIdeal.nD → PrngReg), Pre_OutProjIdeal m →
    (∀ c : Dev Cert.OutProjIdeal.nD,
      m' ((c.tc : Thread Cert.OutProjReferenceIdeal.nD Cert.OutProjReferenceIdeal.τ).loc Cert.OutProjReferenceIdeal.main_arg0) = m ((c.tc : Thread Cert.OutProjIdeal.nD Cert.OutProjIdeal.τ).loc Cert.OutProjIdeal.main_arg0)
      ∧ m' ((c.tc : Thread Cert.OutProjReferenceIdeal.nD Cert.OutProjReferenceIdeal.τ).loc Cert.OutProjReferenceIdeal.main_arg1) = m ((c.tc : Thread Cert.OutProjIdeal.nD Cert.OutProjIdeal.τ).loc Cert.OutProjIdeal.main_arg1)
      ∧ m' ((c.tc : Thread Cert.OutProjReferenceIdeal.nD Cert.OutProjReferenceIdeal.τ).loc Cert.OutProjReferenceIdeal.main_arg2) = m ((c.tc : Thread Cert.OutProjIdeal.nD Cert.OutProjIdeal.τ).loc Cert.OutProjIdeal.main_arg2)
      ∧ m' ((c.tc : Thread Cert.OutProjReferenceIdeal.nD Cert.OutProjReferenceIdeal.τ).loc Cert.OutProjReferenceIdeal.main_arg3) = m ((c.tc : Thread Cert.OutProjIdeal.nD Cert.OutProjIdeal.τ).loc Cert.OutProjIdeal.main_arg3)
      ∧ m' ((c.tc : Thread Cert.OutProjReferenceIdeal.nD Cert.OutProjReferenceIdeal.τ).loc Cert.OutProjReferenceIdeal.main_arg4) = m ((c.tc : Thread Cert.OutProjIdeal.nD Cert.OutProjIdeal.τ).loc Cert.OutProjIdeal.main_arg4)) →
    ∃ (v0 : (c : Dev Cert.OutProjIdeal.nD) → Buf (Elt Ideal) ((c.tc : Thread Cert.OutProjIdeal.nD Cert.OutProjIdeal.τ).loc Cert.OutProjIdeal.main_v0)),
      θ_run (Cert.OutProjIdeal.defs (F := Ideal)) (onTc (τ := Cert.OutProjIdeal.τ) (Cert.OutProjIdeal.main (F := Ideal))) ⟨m, fun _ => 0, g⟩ (fun r => ∀ c : Dev Cert.OutProjIdeal.nD,
          r.2.mem ((c.tc : Thread Cert.OutProjIdeal.nD Cert.OutProjIdeal.τ).loc Cert.OutProjIdeal.main_v0) = v0 c
          ∧ r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
          ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
          ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2)
          ∧ r.2.mem ((c.tc : Thread Cert.OutProjIdeal.nD Cert.OutProjIdeal.τ).loc Cert.OutProjIdeal.main_arg3) = m ((c.tc : Thread Cert.OutProjIdeal.nD Cert.OutProjIdeal.τ).loc Cert.OutProjIdeal.main_arg3)
          ∧ r.2.mem ((c.tc : Thread Cert.OutProjIdeal.nD Cert.OutProjIdeal.τ).loc Cert.OutProjIdeal.main_arg4) = m ((c.tc : Thread Cert.OutProjIdeal.nD Cert.OutProjIdeal.τ).loc Cert.OutProjIdeal.main_arg4))
      ∧ θ_run (Cert.OutProjReferenceIdeal.defs (F := Ideal)) (onTc (τ := Cert.OutProjReferenceIdeal.τ) (Cert.OutProjReferenceIdeal.main (F := Ideal))) ⟨m', fun _ => 0, g'⟩ (fun r => ∀ c : Dev Cert.OutProjReferenceIdeal.nD,
          r.2.mem ((c.tc : Thread Cert.OutProjReferenceIdeal.nD Cert.OutProjReferenceIdeal.τ).loc Cert.OutProjReferenceIdeal.main_v5) = v0 c
          ∧ r.2.mem ((c.tc : Thread Cert.OutProjReferenceIdeal.nD Cert.OutProjReferenceIdeal.τ).loc Cert.OutProjReferenceIdeal.main_arg0) = m' ((c.tc : Thread Cert.OutProjReferenceIdeal.nD Cert.OutProjReferenceIdeal.τ).loc Cert.OutProjReferenceIdeal.main_arg0)
          ∧ r.2.mem ((c.tc : Thread Cert.OutProjReferenceIdeal.nD Cert.OutProjReferenceIdeal.τ).loc Cert.OutProjReferenceIdeal.main_arg1) = m' ((c.tc : Thread Cert.OutProjReferenceIdeal.nD Cert.OutProjReferenceIdeal.τ).loc Cert.OutProjReferenceIdeal.main_arg1)
          ∧ r.2.mem ((c.tc : Thread Cert.OutProjReferenceIdeal.nD Cert.OutProjReferenceIdeal.τ).loc Cert.OutProjReferenceIdeal.main_arg2) = m' ((c.tc : Thread Cert.OutProjReferenceIdeal.nD Cert.OutProjReferenceIdeal.τ).loc Cert.OutProjReferenceIdeal.main_arg2)
          ∧ r.2.mem ((c.tc : Thread Cert.OutProjReferenceIdeal.nD Cert.OutProjReferenceIdeal.τ).loc Cert.OutProjReferenceIdeal.main_arg3) = m' ((c.tc : Thread Cert.OutProjReferenceIdeal.nD Cert.OutProjReferenceIdeal.τ).loc Cert.OutProjReferenceIdeal.main_arg3)
          ∧ r.2.mem ((c.tc : Thread Cert.OutProjReferenceIdeal.nD Cert.OutProjReferenceIdeal.τ).loc Cert.OutProjReferenceIdeal.main_arg4) = m' ((c.tc : Thread Cert.OutProjReferenceIdeal.nD Cert.OutProjReferenceIdeal.τ).loc Cert.OutProjReferenceIdeal.main_arg4))

def Claim : Prop :=
  ∃ (hExperts : Cert.Experts.Facts) (hExpertsIdeal : Cert.ExpertsIdeal.Facts) (hExpertsReferenceIdeal : Cert.ExpertsReferenceIdeal.Facts) (hFfn : Cert.Ffn.Facts) (hFfnIdeal : Cert.FfnIdeal.Facts) (hFfnReferenceIdeal : Cert.FfnReferenceIdeal.Facts) (hFox : Cert.Fox.Facts) (hFoxIdeal : Cert.FoxIdeal.Facts) (hFoxReferenceIdeal : Cert.FoxReferenceIdeal.Facts) (hOutProj : Cert.OutProj.Facts) (hOutProjIdeal : Cert.OutProjIdeal.Facts) (hOutProjReferenceIdeal : Cert.OutProjReferenceIdeal.Facts) (hPre_experts : Cert.Pre_experts.Facts) (hPre_attends : Cert.Pre_attends.Facts),
    quiescent_Experts (hExperts := hExperts) (hPre_experts := hPre_experts)
    ∧ quiescent_ExpertsIdeal (hExpertsIdeal := hExpertsIdeal) (hPre_experts := hPre_experts)
    ∧ quiescent_ExpertsReferenceIdeal (hExpertsReferenceIdeal := hExpertsReferenceIdeal) (hPre_experts := hPre_experts)
    ∧ quiescent_Ffn (hFfn := hFfn)
    ∧ quiescent_FfnIdeal (hFfnIdeal := hFfnIdeal)
    ∧ quiescent_FfnReferenceIdeal (hFfnReferenceIdeal := hFfnReferenceIdeal)
    ∧ quiescent_Fox (hFox := hFox) (hPre_attends := hPre_attends)
    ∧ quiescent_FoxIdeal (hFoxIdeal := hFoxIdeal) (hPre_attends := hPre_attends)
    ∧ quiescent_FoxReferenceIdeal (hFoxReferenceIdeal := hFoxReferenceIdeal)
    ∧ quiescent_OutProj (hOutProj := hOutProj)
    ∧ quiescent_OutProjIdeal (hOutProjIdeal := hOutProjIdeal)
    ∧ quiescent_OutProjReferenceIdeal (hOutProjReferenceIdeal := hOutProjReferenceIdeal)
    ∧ preserves_Experts_ExpertsIdeal
    ∧ algebraic_ExpertsIdeal_ExpertsReferenceIdeal (hExpertsIdeal := hExpertsIdeal) (hExpertsReferenceIdeal := hExpertsReferenceIdeal) (hPre_experts := hPre_experts)
    ∧ preserves_Ffn_FfnIdeal
    ∧ algebraic_FfnIdeal_FfnReferenceIdeal (hFfnIdeal := hFfnIdeal) (hFfnReferenceIdeal := hFfnReferenceIdeal)
    ∧ preserves_Fox_FoxIdeal
    ∧ preserves_OutProj_OutProjIdeal
    ∧ algebraic_OutProjIdeal_OutProjReferenceIdeal (hOutProjIdeal := hOutProjIdeal) (hOutProjReferenceIdeal := hOutProjReferenceIdeal)
-- ==== Pre_attends.lean ====
abbrev S136 : Shape := ⟨1, ![136]⟩
abbrev S8x8192x1024 : Shape := ⟨3, ![8, 8192, 1024]⟩
abbrev S2x16x1024x512 : Shape := ⟨4, ![2, 16, 1024, 512]⟩
abbrev S8x8192x128 : Shape := ⟨3, ![8, 8192, 128]⟩
abbrev S_ : Shape := ⟨0, ![]⟩

class Facts : Prop where
  bcast_S_S136 : S_.BroadcastsInDim S136 (![] : Fin 0 → Fin S136.rank)

variable [Facts]

def fn {F : FTy → Type} [FloatOps F] (main_arg0 : IVec S136 32) (main_arg1 : IVec S136 32) (main_arg2 : FVec F S8x8192x1024 .bf16) (main_arg3 : FVec F S8x8192x1024 .bf16) (main_arg4 : FVec F S8x8192x1024 .bf16) (main_arg5 : FVec F S2x16x1024x512 .bf16) (main_arg6 : FVec F S8x8192x128 .f32) : IVec S136 1 :=
  let main_v0 : IVec S136 32 := iotaInDim S136 32 0
  let main_c : IVec S_ 32 := constantI S_ 32 0#32
  let main_v1 : IVec S136 32 := broadcastInDim S136 ![] bcast_S_S136 main_c
  let main_v2 : IVec S136 1 := cmpi .sge main_arg1 main_v1
  let main_v3 : IVec S136 1 := cmpi .sle main_arg1 main_arg0
  let main_v4 : IVec S136 1 := andi main_v2 main_v3
  let main_c_0 : IVec S_ 32 := constantI S_ 32 15#32
  let main_v5 : IVec S136 32 := broadcastInDim S136 ![] bcast_S_S136 main_c_0
  let main_v6 : IVec S136 1 := cmpi .sle main_arg0 main_v5
  let main_v7 : IVec S136 1 := andi main_v4 main_v6
  let main_c_1 : IVec S_ 32 := constantI S_ 32 1#32
  let main_v8 : IVec S136 32 := broadcastInDim S136 ![] bcast_S_S136 main_c_1
  let main_v9 : IVec S136 32 := addi main_arg0 main_v8
  let main_v10 : IVec S136 32 := muli main_arg0 main_v9
  let main_c_2 : IVec S_ 32 := constantI S_ 32 2#32
  let main_v11 : IVec S136 32 := broadcastInDim S136 ![] bcast_S_S136 main_c_2
  let main_v12 : IVec S136 32 := muli main_v11 main_arg1
  let main_v13 : IVec S136 32 := addi main_v10 main_v12
  let main_c_3 : IVec S_ 32 := constantI S_ 32 2#32
  let main_v14 : IVec S136 32 := broadcastInDim S136 ![] bcast_S_S136 main_c_3
  let main_v15 : IVec S136 32 := muli main_v14 main_v0
  let main_v16 : IVec S136 1 := cmpi .eq main_v13 main_v15
  let main_v17 : IVec S136 1 := andi main_v7 main_v16
  main_v17
-- ==== Pre_experts.lean ====
abbrev S23 : Shape := ⟨1, ![23]⟩
abbrev S24656x1024 : Shape := ⟨2, ![24656, 1024]⟩
abbrev S8x2048x7168 : Shape := ⟨3, ![8, 2048, 7168]⟩
abbrev S8x7168x2048 : Shape := ⟨3, ![8, 7168, 2048]⟩
abbrev S_ : Shape := ⟨0, ![]⟩

class Facts : Prop where
  bcast_S_S23 : S_.BroadcastsInDim S23 (![] : Fin 0 → Fin S23.rank)

variable [Facts]

def fn {F : FTy → Type} [FloatOps F] (main_arg0 : IVec S23 32) (main_arg1 : IVec S23 32) (main_arg2 : IVec S24656x1024 32) (main_arg3 : FVec F S8x2048x7168 .f32) (main_arg4 : FVec F S8x2048x7168 .f32) (main_arg5 : FVec F S8x7168x2048 .f32) : IVec S23 1 :=
  let main_c : IVec S_ 32 := constantI S_ 32 0#32
  let main_v0 : IVec S23 32 := broadcastInDim S23 ![] bcast_S_S23 main_c
  let main_v1 : IVec S23 1 := cmpi .sge main_arg0 main_v0
  let main_c_0 : IVec S_ 32 := constantI S_ 32 7#32
  let main_v2 : IVec S23 32 := broadcastInDim S23 ![] bcast_S_S23 main_c_0
  let main_v3 : IVec S23 1 := cmpi .sle main_arg0 main_v2
  let main_v4 : IVec S23 1 := andi main_v1 main_v3
  main_v4
-- ==== Experts.lean ====
abbrev S23 : Shape := ⟨1, ![23]⟩
abbrev S24656x1024 : Shape := ⟨2, ![24656, 1024]⟩
abbrev S8x2048x7168 : Shape := ⟨3, ![8, 2048, 7168]⟩
abbrev S8x7168x2048 : Shape := ⟨3, ![8, 7168, 2048]⟩
abbrev S24656x2048 : Shape := ⟨2, ![24656, 2048]⟩
abbrev S1072x1024 : Shape := ⟨2, ![1072, 1024]⟩
abbrev S1x2048x256 : Shape := ⟨3, ![1, 2048, 256]⟩
abbrev S1 : Shape := ⟨1, ![1]⟩
abbrev S1x256x2048 : Shape := ⟨3, ![1, 256, 2048]⟩
abbrev S1072x2048 : Shape := ⟨2, ![1072, 2048]⟩
abbrev S2048x256 : Shape := ⟨2, ![2048, 256]⟩
abbrev S256x2048 : Shape := ⟨2, ![256, 2048]⟩
abbrev S1072x256 : Shape := ⟨2, ![1072, 256]⟩

abbrev nBuf : Space → Nat
  | .hbm => 5
  | .vmem => 11
  | .smem => 2
  | _ => 0

abbrev bufTy : (tb : Table) → Fin (tcTables nBuf tb) → BufTy
  | .hbm, ⟨0, _⟩ => ⟨S24656x1024, .i32⟩
  | .hbm, ⟨1, _⟩ => ⟨S8x2048x7168, .f32⟩
  | .hbm, ⟨2, _⟩ => ⟨S8x2048x7168, .f32⟩
  | .hbm, ⟨3, _⟩ => ⟨S8x7168x2048, .f32⟩
  | .hbm, ⟨4, _⟩ => ⟨S24656x2048, .f32⟩
  | .local _ .vmem, ⟨0, _⟩ => ⟨S1072x1024, .i32⟩
  | .local _ .vmem, ⟨1, _⟩ => ⟨S1072x1024, .i32⟩
  | .local _ .vmem, ⟨2, _⟩ => ⟨S1x2048x256, .f32⟩
  | .local _ .vmem, ⟨3, _⟩ => ⟨S1x2048x256, .f32⟩
  | .local _ .vmem, ⟨4, _⟩ => ⟨S1x2048x256, .f32⟩
  | .local _ .vmem, ⟨5, _⟩ => ⟨S1x2048x256, .f32⟩
  | .local _ .vmem, ⟨6, _⟩ => ⟨S1x256x2048, .f32⟩
  | .local _ .vmem, ⟨7, _⟩ => ⟨S1x256x2048, .f32⟩
  | .local _ .vmem, ⟨8, _⟩ => ⟨S1072x2048, .f32⟩
  | .local _ .vmem, ⟨9, _⟩ => ⟨S1072x2048, .f32⟩
  | .local _ .vmem, ⟨10, _⟩ => ⟨S1072x2048, .bf16⟩
  | .local _ .smem, ⟨0, _⟩ => ⟨S23, .i32⟩
  | .local _ .smem, ⟨1, _⟩ => ⟨S23, .i32⟩
  | _, _ => ⟨S24656x1024, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg2 : Ref sig .tc := ⟨.hbm, 0, rfl⟩
abbrev main_arg3 : Ref sig .tc := ⟨.hbm, 1, rfl⟩
abbrev main_arg4 : Ref sig .tc := ⟨.hbm, 2, rfl⟩
abbrev main_arg5 : Ref sig .tc := ⟨.hbm, 3, rfl⟩
abbrev main_v0 : Ref sig .tc := ⟨.hbm, 4, rfl⟩
abbrev main_arg0 : Ref sig .tc := ⟨.smem, 0, rfl⟩
abbrev main_arg1 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![23, 28], ![false, false]⟩

abbrev pre0 : Pipeline.Prefetch sig := ⟨2, ![main_arg0.idx, main_arg1.idx], fun | 0 => main_arg0.names | 1 => main_arg1.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_cond2 (v4 : BitVec 32) : BitVec 1 :=
  let c0_i32_1 : BitVec 32 := 0#32
  let v5 : BitVec 1 := Scalar.cmpi .sgt v4 c0_i32_1
  let v6 : BitVec 32 := Scalar.extui v5
  let c0_i32_2 : BitVec 32 := 0#32
  let v7 : BitVec 1 := Scalar.cmpi .ne v6 c0_i32_2
  v7

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (k0_off1_inb : ∀ i : grid0.Coords, ∀ a, (k0_off1 i) a + S1.size a ≤ S23.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S23) ![v0.toNat] S1.size (k0_off1_inb i)) numel1_S1
  let v2 : Index := Scalar.indexCast arg0
  let v3 : BitVec 32 := pf.at 1 (Rect.unit (s := S23) ![v2.toNat] S1.size (k0_off1_inb i)) numel1_S1
  let c0_i32 : BitVec 32 := 0#32
  let v4 : BitVec 1 := Scalar.cmpi .sgt v3 c0_i32
  let c27_i32 : BitVec 32 := 27#32
  let v5 : BitVec 32 := Scalar.select v4 arg1 c27_i32
  let c0_i32_0 : BitVec 32 := 0#32
  let c0_i32_1 : BitVec 32 := 0#32
  ![v1.toNat, c0_i32_0.toNat, v5.toNat]

def cc0_transform_2 (k0_off1_inb : ∀ i : grid0.Coords, ∀ a, (k0_off1 i) a + S1.size a ≤ S23.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S23) ![v0.toNat] S1.size (k0_off1_inb i)) numel1_S1
  let v2 : Index := Scalar.indexCast arg0
  let v3 : BitVec 32 := pf.at 1 (Rect.unit (s := S23) ![v2.toNat] S1.size (k0_off1_inb i)) numel1_S1
  let c0_i32 : BitVec 32 := 0#32
  let v4 : BitVec 1 := Scalar.cmpi .sgt v3 c0_i32
  let c27_i32 : BitVec 32 := 27#32
  let v5 : BitVec 32 := Scalar.select v4 arg1 c27_i32
  let c0_i32_0 : BitVec 32 := 0#32
  let c0_i32_1 : BitVec 32 := 0#32
  ![v1.toNat, c0_i32_0.toNat, v5.toNat]

def cc0_transform_3 (k0_off1_inb : ∀ i : grid0.Coords, ∀ a, (k0_off1 i) a + S1.size a ≤ S23.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S23) ![v0.toNat] S1.size (k0_off1_inb i)) numel1_S1
  let v2 : Index := Scalar.indexCast arg0
  let v3 : BitVec 32 := pf.at 1 (Rect.unit (s := S23) ![v2.toNat] S1.size (k0_off1_inb i)) numel1_S1
  let c0_i32 : BitVec 32 := 0#32
  let v4 : BitVec 1 := Scalar.cmpi .sgt v3 c0_i32
  let c27_i32 : BitVec 32 := 27#32
  let v5 : BitVec 32 := Scalar.select v4 arg1 c27_i32
  let c0_i32_0 : BitVec 32 := 0#32
  let c0_i32_1 : BitVec 32 := 0#32
  ![v1.toNat, v5.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1072x1024 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x2048x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2048x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1072x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== ExpertsReferenceIdeal.lean ====
abbrev S23 : Shape := ⟨1, ![23]⟩
abbrev S24656x1024 : Shape := ⟨2, ![24656, 1024]⟩
abbrev S8x2048x7168 : Shape := ⟨3, ![8, 2048, 7168]⟩
abbrev S8x7168x2048 : Shape := ⟨3, ![8, 7168, 2048]⟩
abbrev S_ : Shape := ⟨0, ![]⟩
abbrev S24656x2048 : Shape := ⟨2, ![24656, 2048]⟩
abbrev S23x1072 : Shape := ⟨2, ![23, 1072]⟩
abbrev S24656 : Shape := ⟨1, ![24656]⟩
abbrev S24656x1 : Shape := ⟨2, ![24656, 1]⟩
abbrev S1x2048x7168 : Shape := ⟨3, ![1, 2048, 7168]⟩
abbrev S2048x7168 : Shape := ⟨2, ![2048, 7168]⟩
abbrev S1x7168x2048 : Shape := ⟨3, ![1, 7168, 2048]⟩
abbrev S7168x2048 : Shape := ⟨2, ![7168, 2048]⟩
abbrev S24656x7168 : Shape := ⟨2, ![24656, 7168]⟩

abbrev nBuf : Space → Nat
  | .hbm => 258
  | .vmem => 0
  | .smem => 0
  | _ => 0

abbrev hbmTy0_0 (i : Nat) : BufTy := match i % 128 with
  | 0 => ⟨S23, .i32⟩
  | 1 => ⟨S23, .i32⟩
  | 2 => ⟨S24656x1024, .i32⟩
  | 3 => ⟨S8x2048x7168, .f32⟩
  | 4 => ⟨S8x2048x7168, .f32⟩
  | 5 => ⟨S8x7168x2048, .f32⟩
  | 6 => ⟨S_, .i32⟩
  | 7 => ⟨S24656x1024, .i32⟩
  | 8 => ⟨S24656x1024, .i32⟩
  | 9 => ⟨S24656x1024, .f32⟩
  | 10 => ⟨S_, .i32⟩
  | 11 => ⟨S24656x1024, .i32⟩
  | 12 => ⟨S24656x1024, .i32⟩
  | 13 => ⟨S24656x1024, .f32⟩
  | 14 => ⟨S24656x2048, .f32⟩
  | 15 => ⟨S23x1072, .i32⟩
  | 16 => ⟨S24656, .i32⟩
  | 17 => ⟨S24656x1, .i32⟩
  | 18 => ⟨S23x1072, .i32⟩
  | 19 => ⟨S24656, .i32⟩
  | 20 => ⟨S24656x1, .i32⟩
  | 21 => ⟨S_, .i32⟩
  | 22 => ⟨S24656x1, .i32⟩
  | 23 => ⟨S24656x1, .i1⟩
  | 24 => ⟨S_, .f32⟩
  | 25 => ⟨S24656x2048, .f32⟩
  | 26 => ⟨S_, .i32⟩
  | 27 => ⟨S24656x1, .i32⟩
  | 28 => ⟨S24656x1, .i1⟩
  | 29 => ⟨S24656x1, .i1⟩
  | 30 => ⟨S1x2048x7168, .f32⟩
  | 31 => ⟨S2048x7168, .f32⟩
  | 32 => ⟨S1x2048x7168, .f32⟩
  | 33 => ⟨S2048x7168, .f32⟩
  | 34 => ⟨S1x7168x2048, .f32⟩
  | 35 => ⟨S7168x2048, .f32⟩
  | 36 => ⟨S24656x7168, .f32⟩
  | 37 => ⟨S24656x7168, .f32⟩
  | 38 => ⟨S24656x7168, .f32⟩
  | 39 => ⟨S_, .f32⟩
  | 40 => ⟨S24656x7168, .f32⟩
  | 41 => ⟨S24656x7168, .f32⟩
  | 42 => ⟨S_, .f32⟩
  | 43 => ⟨S24656x7168, .f32⟩
  | 44 => ⟨S24656x7168, .f32⟩
  | 45 => ⟨S24656x7168, .f32⟩
  | 46 => ⟨S24656x7168, .f32⟩
  | 47 => ⟨S24656x7168, .f32⟩
  | 48 => ⟨S24656x2048, .f32⟩
  | 49 => ⟨S_, .f32⟩
  | 50 => ⟨S_, .f32⟩
  | 51 => ⟨S24656x2048, .i1⟩
  | 52 => ⟨S24656x2048, .f32⟩
  | 53 => ⟨S24656x2048, .f32⟩
  | 54 => ⟨S24656x2048, .f32⟩
  | 55 => ⟨S_, .i32⟩
  | 56 => ⟨S24656x1, .i32⟩
  | 57 => ⟨S24656x1, .i1⟩
  | 58 => ⟨S24656x1, .i1⟩
  | 59 => ⟨S1x2048x7168, .f32⟩
  | 60 => ⟨S2048x7168, .f32⟩
  | 61 => ⟨S1x2048x7168, .f32⟩
  | 62 => ⟨S2048x7168, .f32⟩
  | 63 => ⟨S1x7168x2048, .f32⟩
  | 64 => ⟨S7168x2048, .f32⟩
  | 65 => ⟨S24656x7168, .f32⟩
  | 66 => ⟨S24656x7168, .f32⟩
  | 67 => ⟨S24656x7168, .f32⟩
  | 68 => ⟨S_, .f32⟩
  | 69 => ⟨S24656x7168, .f32⟩
  | 70 => ⟨S24656x7168, .f32⟩
  | 71 => ⟨S_, .f32⟩
  | 72 => ⟨S24656x7168, .f32⟩
  | 73 => ⟨S24656x7168, .f32⟩
  | 74 => ⟨S24656x7168, .f32⟩
  | 75 => ⟨S24656x7168, .f32⟩
  | 76 => ⟨S24656x7168, .f32⟩
  | 77 => ⟨S24656x2048, .f32⟩
  | 78 => ⟨S_, .f32⟩
  | 79 => ⟨S_, .f32⟩
  | 80 => ⟨S24656x2048, .i1⟩
  | 81 => ⟨S24656x2048, .f32⟩
  | 82 => ⟨S24656x2048, .f32⟩
  | 83 => ⟨S24656x2048, .f32⟩
  | 84 => ⟨S_, .i32⟩
  | 85 => ⟨S24656x1, .i32⟩
  | 86 => ⟨S24656x1, .i1⟩
  | 87 => ⟨S24656x1, .i1⟩
  | 88 => ⟨S1x2048x7168, .f32⟩
  | 89 => ⟨S2048x7168, .f32⟩
  | 90 => ⟨S1x2048x7168, .f32⟩
  | 91 => ⟨S2048x7168, .f32⟩
  | 92 => ⟨S1x7168x2048, .f32⟩
  | 93 => ⟨S7168x2048, .f32⟩
  | 94 => ⟨S24656x7168, .f32⟩
  | 95 => ⟨S24656x7168, .f32⟩
  | 96 => ⟨S24656x7168, .f32⟩
  | 97 => ⟨S_, .f32⟩
  | 98 => ⟨S24656x7168, .f32⟩
  | 99 => ⟨S24656x7168, .f32⟩
  | 100 => ⟨S_, .f32⟩
  | 101 => ⟨S24656x7168, .f32⟩
  | 102 => ⟨S24656x7168, .f32⟩
  | 103 => ⟨S24656x7168, .f32⟩
  | 104 => ⟨S24656x7168, .f32⟩
  | 105 => ⟨S24656x7168, .f32⟩
  | 106 => ⟨S24656x2048, .f32⟩
  | 107 => ⟨S_, .f32⟩
  | 108 => ⟨S_, .f32⟩
  | 109 => ⟨S24656x2048, .i1⟩
  | 110 => ⟨S24656x2048, .f32⟩
  | 111 => ⟨S24656x2048, .f32⟩
  | 112 => ⟨S24656x2048, .f32⟩
  | 113 => ⟨S_, .i32⟩
  | 114 => ⟨S24656x1, .i32⟩
  | 115 => ⟨S24656x1, .i1⟩
  | 116 => ⟨S24656x1, .i1⟩
  | 117 => ⟨S1x2048x7168, .f32⟩
  | 118 => ⟨S2048x7168, .f32⟩
  | 119 => ⟨S1x2048x7168, .f32⟩
  | 120 => ⟨S2048x7168, .f32⟩
  | 121 => ⟨S1x7168x2048, .f32⟩
  | 122 => ⟨S7168x2048, .f32⟩
  | 123 => ⟨S24656x7168, .f32⟩
  | 124 => ⟨S24656x7168, .f32⟩
  | 125 => ⟨S24656x7168, .f32⟩
  | 126 => ⟨S_, .f32⟩
  | 127 => ⟨S24656x7168, .f32⟩
  | _ => ⟨S23, .i32⟩

abbrev hbmTy0_1 (i : Nat) : BufTy := match i % 128 with
  | 0 => ⟨S24656x7168, .f32⟩
  | 1 => ⟨S_, .f32⟩
  | 2 => ⟨S24656x7168, .f32⟩
  | 3 => ⟨S24656x7168, .f32⟩
  | 4 => ⟨S24656x7168, .f32⟩
  | 5 => ⟨S24656x7168, .f32⟩
  | 6 => ⟨S24656x7168, .f32⟩
  | 7 => ⟨S24656x2048, .f32⟩
  | 8 => ⟨S_, .f32⟩
  | 9 => ⟨S_, .f32⟩
  | 10 => ⟨S24656x2048, .i1⟩
  | 11 => ⟨S24656x2048, .f32⟩
  | 12 => ⟨S24656x2048, .f32⟩
  | 13 => ⟨S24656x2048, .f32⟩
  | 14 => ⟨S_, .i32⟩
  | 15 => ⟨S24656x1, .i32⟩
  | 16 => ⟨S24656x1, .i1⟩
  | 17 => ⟨S24656x1, .i1⟩
  | 18 => ⟨S1x2048x7168, .f32⟩
  | 19 => ⟨S2048x7168, .f32⟩
  | 20 => ⟨S1x2048x7168, .f32⟩
  | 21 => ⟨S2048x7168, .f32⟩
  | 22 => ⟨S1x7168x2048, .f32⟩
  | 23 => ⟨S7168x2048, .f32⟩
  | 24 => ⟨S24656x7168, .f32⟩
  | 25 => ⟨S24656x7168, .f32⟩
  | 26 => ⟨S24656x7168, .f32⟩
  | 27 => ⟨S_, .f32⟩
  | 28 => ⟨S24656x7168, .f32⟩
  | 29 => ⟨S24656x7168, .f32⟩
  | 30 => ⟨S_, .f32⟩
  | 31 => ⟨S24656x7168, .f32⟩
  | 32 => ⟨S24656x7168, .f32⟩
  | 33 => ⟨S24656x7168, .f32⟩
  | 34 => ⟨S24656x7168, .f32⟩
  | 35 => ⟨S24656x7168, .f32⟩
  | 36 => ⟨S24656x2048, .f32⟩
  | 37 => ⟨S_, .f32⟩
  | 38 => ⟨S_, .f32⟩
  | 39 => ⟨S24656x2048, .i1⟩
  | 40 => ⟨S24656x2048, .f32⟩
  | 41 => ⟨S24656x2048, .f32⟩
  | 42 => ⟨S24656x2048, .f32⟩
  | 43 => ⟨S_, .i32⟩
  | 44 => ⟨S24656x1, .i32⟩
  | 45 => ⟨S24656x1, .i1⟩
  | 46 => ⟨S24656x1, .i1⟩
  | 47 => ⟨S1x2048x7168, .f32⟩
  | 48 => ⟨S2048x7168, .f32⟩
  | 49 => ⟨S1x2048x7168, .f32⟩
  | 50 => ⟨S2048x7168, .f32⟩
  | 51 => ⟨S1x7168x2048, .f32⟩
  | 52 => ⟨S7168x2048, .f32⟩
  | 53 => ⟨S24656x7168, .f32⟩
  | 54 => ⟨S24656x7168, .f32⟩
  | 55 => ⟨S24656x7168, .f32⟩
  | 56 => ⟨S_, .f32⟩
  | 57 => ⟨S24656x7168, .f32⟩
  | 58 => ⟨S24656x7168, .f32⟩
  | 59 => ⟨S_, .f32⟩
  | 60 => ⟨S24656x7168, .f32⟩
  | 61 => ⟨S24656x7168, .f32⟩
  | 62 => ⟨S24656x7168, .f32⟩
  | 63 => ⟨S24656x7168, .f32⟩
  | 64 => ⟨S24656x7168, .f32⟩
  | 65 => ⟨S24656x2048, .f32⟩
  | 66 => ⟨S_, .f32⟩
  | 67 => ⟨S_, .f32⟩
  | 68 => ⟨S24656x2048, .i1⟩
  | 69 => ⟨S24656x2048, .f32⟩
  | 70 => ⟨S24656x2048, .f32⟩
  | 71 => ⟨S24656x2048, .f32⟩
  | 72 => ⟨S_, .i32⟩
  | 73 => ⟨S24656x1, .i32⟩
  | 74 => ⟨S24656x1, .i1⟩
  | 75 => ⟨S24656x1, .i1⟩
  | 76 => ⟨S1x2048x7168, .f32⟩
  | 77 => ⟨S2048x7168, .f32⟩
  | 78 => ⟨S1x2048x7168, .f32⟩
  | 79 => ⟨S2048x7168, .f32⟩
  | 80 => ⟨S1x7168x2048, .f32⟩
  | 81 => ⟨S7168x2048, .f32⟩
  | 82 => ⟨S24656x7168, .f32⟩
  | 83 => ⟨S24656x7168, .f32⟩
  | 84 => ⟨S24656x7168, .f32⟩
  | 85 => ⟨S_, .f32⟩
  | 86 => ⟨S24656x7168, .f32⟩
  | 87 => ⟨S24656x7168, .f32⟩
  | 88 => ⟨S_, .f32⟩
  | 89 => ⟨S24656x7168, .f32⟩
  | 90 => ⟨S24656x7168, .f32⟩
  | 91 => ⟨S24656x7168, .f32⟩
  | 92 => ⟨S24656x7168, .f32⟩
  | 93 => ⟨S24656x7168, .f32⟩
  | 94 => ⟨S24656x2048, .f32⟩
  | 95 => ⟨S_, .f32⟩
  | 96 => ⟨S_, .f32⟩
  | 97 => ⟨S24656x2048, .i1⟩
  | 98 => ⟨S24656x2048, .f32⟩
  | 99 => ⟨S24656x2048, .f32⟩
  | 100 => ⟨S24656x2048, .f32⟩
  | 101 => ⟨S_, .i32⟩
  | 102 => ⟨S24656x1, .i32⟩
  | 103 => ⟨S24656x1, .i1⟩
  | 104 => ⟨S24656x1, .i1⟩
  | 105 => ⟨S1x2048x7168, .f32⟩
  | 106 => ⟨S2048x7168, .f32⟩
  | 107 => ⟨S1x2048x7168, .f32⟩
  | 108 => ⟨S2048x7168, .f32⟩
  | 109 => ⟨S1x7168x2048, .f32⟩
  | 110 => ⟨S7168x2048, .f32⟩
  | 111 => ⟨S24656x7168, .f32⟩
  | 112 => ⟨S24656x7168, .f32⟩
  | 113 => ⟨S24656x7168, .f32⟩
  | 114 => ⟨S_, .f32⟩
  | 115 => ⟨S24656x7168, .f32⟩
  | 116 => ⟨S24656x7168, .f32⟩
  | 117 => ⟨S_, .f32⟩
  | 118 => ⟨S24656x7168, .f32⟩
  | 119 => ⟨S24656x7168, .f32⟩
  | 120 => ⟨S24656x7168, .f32⟩
  | 121 => ⟨S24656x7168, .f32⟩
  | 122 => ⟨S24656x7168, .f32⟩
  | 123 => ⟨S24656x2048, .f32⟩
  | 124 => ⟨S_, .f32⟩
  | 125 => ⟨S_, .f32⟩
  | 126 => ⟨S24656x2048, .i1⟩
  | 127 => ⟨S24656x2048, .f32⟩
  | _ => ⟨S23, .i32⟩

abbrev hbmTy0_2 (i : Nat) : BufTy := match i % 128 with
  | 0 => ⟨S24656x2048, .f32⟩
  | 1 => ⟨S24656x2048, .f32⟩
  | _ => ⟨S23, .i32⟩

abbrev hbmTy (i : Nat) : BufTy := match i / 128 with
  | 0 => hbmTy0_0 i
  | 1 => hbmTy0_1 i
  | 2 => hbmTy0_2 i
  | _ => ⟨S23, .i32⟩

abbrev bufTy : (tb : Table) → Fin (tcTables nBuf tb) → BufTy
  | .hbm, ⟨i, _⟩ => hbmTy i
  | _, _ => ⟨S23, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_c_0 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_c_1 : Ref sig .tc := ⟨.hbm, 21, rfl⟩
abbrev main_v13 : Ref sig .tc := ⟨.hbm, 22, rfl⟩
abbrev main_v14 : Ref sig .tc := ⟨.hbm, 23, rfl⟩
abbrev main_cst : Ref sig .tc := ⟨.hbm, 24, rfl⟩
abbrev main_v15 : Ref sig .tc := ⟨.hbm, 25, rfl⟩
abbrev main_c_2 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_call0_v0 : Ref sig .tc := ⟨.hbm, 37, rfl⟩
abbrev main_call0_v1 : Ref sig .tc := ⟨.hbm, 38, rfl⟩
abbrev main_call0_cst : Ref sig .tc := ⟨.hbm, 39, rfl⟩
abbrev main_call0_v2 : Ref sig .tc := ⟨.hbm, 40, rfl⟩
abbrev main_call0_v3 : Ref sig .tc := ⟨.hbm, 41, rfl⟩
abbrev main_call0_cst_0 : Ref sig .tc := ⟨.hbm, 42, rfl⟩
abbrev main_call0_v4 : Ref sig .tc := ⟨.hbm, 43, rfl⟩
abbrev main_call0_v5 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_cst_3 : Ref sig .tc := ⟨.hbm, 49, rfl⟩
abbrev main_call1_v0 : Ref sig .tc := ⟨.hbm, 50, rfl⟩
abbrev main_call1_v1 : Ref sig .tc := ⟨.hbm, 51, rfl⟩
abbrev main_call1_v2 : Ref sig .tc := ⟨.hbm, 52, rfl⟩
abbrev main_v30 : Ref sig .tc := ⟨.hbm, 53, rfl⟩
abbrev main_v31 : Ref sig .tc := ⟨.hbm, 54, rfl⟩
abbrev main_c_4 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_call2_v0 : Ref sig .tc := ⟨.hbm, 66, rfl⟩
abbrev main_call2_v1 : Ref sig .tc := ⟨.hbm, 67, rfl⟩
abbrev main_call2_cst : Ref sig .tc := ⟨.hbm, 68, rfl⟩
abbrev main_call2_v2 : Ref sig .tc := ⟨.hbm, 69, rfl⟩
abbrev main_call2_v3 : Ref sig .tc := ⟨.hbm, 70, rfl⟩
abbrev main_call2_cst_0 : Ref sig .tc := ⟨.hbm, 71, rfl⟩
abbrev main_call2_v4 : Ref sig .tc := ⟨.hbm, 72, rfl⟩
abbrev main_call2_v5 : Ref sig .tc := ⟨.hbm, 73, rfl⟩
abbrev main_v42 : Ref sig .tc := ⟨.hbm, 74, rfl⟩
abbrev main_v43 : Ref sig .tc := ⟨.hbm, 75, rfl⟩
abbrev main_v44 : Ref sig .tc := ⟨.hbm, 76, rfl⟩
abbrev main_v45 : Ref sig .tc := ⟨.hbm, 77, rfl⟩
abbrev main_cst_5 : Ref sig .tc := ⟨.hbm, 78, rfl⟩
abbrev main_call3_v0 : Ref sig .tc := ⟨.hbm, 79, rfl⟩
abbrev main_call3_v1 : Ref sig .tc := ⟨.hbm, 80, rfl⟩
abbrev main_call3_v2 : Ref sig .tc := ⟨.hbm, 81, rfl⟩
abbrev main_v46 : Ref sig .tc := ⟨.hbm, 82, rfl⟩
abbrev main_v47 : Ref sig .tc := ⟨.hbm, 83, rfl⟩
abbrev main_c_6 : Ref sig .tc := ⟨.hbm, 84, rfl⟩
abbrev main_v48 : Ref sig .tc := ⟨.hbm, 85, rfl⟩
abbrev main_v49 : Ref sig .tc := ⟨.hbm, 86, rfl⟩
abbrev main_v50 : Ref sig .tc := ⟨.hbm, 87, rfl⟩
abbrev main_v51 : Ref sig .tc := ⟨.hbm, 88, rfl⟩
abbrev main_v52 : Ref sig .tc := ⟨.hbm, 89, rfl⟩
abbrev main_v53 : Ref sig .tc := ⟨.hbm, 90, rfl⟩
abbrev main_v54 : Ref sig .tc := ⟨.hbm, 91, rfl⟩
abbrev main_v55 : Ref sig .tc := ⟨.hbm, 92, rfl⟩
abbrev main_v56 : Ref sig .tc := ⟨.hbm, 93, rfl⟩
abbrev main_v57 : Ref sig .tc := ⟨.hbm, 94, rfl⟩
abbrev main_call4_v0 : Ref sig .tc := ⟨.hbm, 95, rfl⟩
abbrev main_call4_v1 : Ref sig .tc := ⟨.hbm, 96, rfl⟩
abbrev main_call4_cst : Ref sig .tc := ⟨.hbm, 97, rfl⟩
abbrev main_call4_v2 : Ref sig .tc := ⟨.hbm, 98, rfl⟩
abbrev main_call4_v3 : Ref sig .tc := ⟨.hbm, 99, rfl⟩
abbrev main_call4_cst_0 : Ref sig .tc := ⟨.hbm, 100, rfl⟩
abbrev main_call4_v4 : Ref sig .tc := ⟨.hbm, 101, rfl⟩
abbrev main_call4_v5 : Ref sig .tc := ⟨.hbm, 102, rfl⟩
abbrev main_v58 : Ref sig .tc := ⟨.hbm, 103, rfl⟩
abbrev main_v59 : Ref sig .tc := ⟨.hbm, 104, rfl⟩
abbrev main_v60 : Ref sig .tc := ⟨.hbm, 105, rfl⟩
abbrev main_v61 : Ref sig .tc := ⟨.hbm, 106, rfl⟩
abbrev main_cst_7 : Ref sig .tc := ⟨.hbm, 107, rfl⟩
abbrev main_call5_v0 : Ref sig .tc := ⟨.hbm, 108, rfl⟩
abbrev main_call5_v1 : Ref sig .tc := ⟨.hbm, 109, rfl⟩
abbrev main_call5_v2 : Ref sig .tc := ⟨.hbm, 110, rfl⟩
abbrev main_v62 : Ref sig .tc := ⟨.hbm, 111, rfl⟩
abbrev main_v63 : Ref sig .tc := ⟨.hbm, 112, rfl⟩
abbrev main_c_8 : Ref sig .tc := ⟨.hbm, 113, rfl⟩
abbrev main_v64 : Ref sig .tc := ⟨.hbm, 114, rfl⟩
abbrev main_v65 : Ref sig .tc := ⟨.hbm, 115, rfl⟩
abbrev main_v66 : Ref sig .tc := ⟨.hbm, 116, rfl⟩
abbrev main_v67 : Ref sig .tc := ⟨.hbm, 117, rfl⟩
abbrev main_v68 : Ref sig .tc := ⟨.hbm, 118, rfl⟩
abbrev main_v69 : Ref sig .tc := ⟨.hbm, 119, rfl⟩
abbrev main_v70 : Ref sig .tc := ⟨.hbm, 120, rfl⟩
abbrev main_v71 : Ref sig .tc := ⟨.hbm, 121, rfl⟩
abbrev main_v72 : Ref sig .tc := ⟨.hbm, 122, rfl⟩
abbrev main_v73 : Ref sig .tc := ⟨.hbm, 123, rfl⟩
abbrev main_call6_v0 : Ref sig .tc := ⟨.hbm, 124, rfl⟩
abbrev main_call6_v1 : Ref sig .tc := ⟨.hbm, 125, rfl⟩
abbrev main_call6_cst : Ref sig .tc := ⟨.hbm, 126, rfl⟩
abbrev main_call6_v2 : Ref sig .tc := ⟨.hbm, 127, rfl⟩
abbrev main_call6_v3 : Ref sig .tc := ⟨.hbm, 128, rfl⟩
abbrev main_call6_cst_0 : Ref sig .tc := ⟨.hbm, 129, rfl⟩
abbrev main_call6_v4 : Ref sig .tc := ⟨.hbm, 130, rfl⟩
abbrev main_call6_v5 : Ref sig .tc := ⟨.hbm, 131, rfl⟩
abbrev main_v74 : Ref sig .tc := ⟨.hbm, 132, rfl⟩
abbrev main_v75 : Ref sig .tc := ⟨.hbm, 133, rfl⟩
abbrev main_v76 : Ref sig .tc := ⟨.hbm, 134, rfl⟩
abbrev main_v77 : Ref sig .tc := ⟨.hbm, 135, rfl⟩
abbrev main_cst_9 : Ref sig .tc := ⟨.hbm, 136, rfl⟩
abbrev main_call7_v0 : Ref sig .tc := ⟨.hbm, 137, rfl⟩
abbrev main_call7_v1 : Ref sig .tc := ⟨.hbm, 138, rfl⟩
abbrev main_call7_v2 : Ref sig .tc := ⟨.hbm, 139, rfl⟩
abbrev main_v78 : Ref sig .tc := ⟨.hbm, 140, rfl⟩
abbrev main_v79 : Ref sig .tc := ⟨.hbm, 141, rfl⟩
abbrev main_c_10 : Ref sig .tc := ⟨.hbm, 142, rfl⟩
abbrev main_v80 : Ref sig .tc := ⟨.hbm, 143, rfl⟩
abbrev main_v81 : Ref sig .tc := ⟨.hbm, 144, rfl⟩
abbrev main_v82 : Ref sig .tc := ⟨.hbm, 145, rfl⟩
abbrev main_v83 : Ref sig .tc := ⟨.hbm, 146, rfl⟩
abbrev main_v84 : Ref sig .tc := ⟨.hbm, 147, rfl⟩
abbrev main_v85 : Ref sig .tc := ⟨.hbm, 148, rfl⟩
abbrev main_v86 : Ref sig .tc := ⟨.hbm, 149, rfl⟩
abbrev main_v87 : Ref sig .tc := ⟨.hbm, 150, rfl⟩
abbrev main_v88 : Ref sig .tc := ⟨.hbm, 151, rfl⟩
abbrev main_v89 : Ref sig .tc := ⟨.hbm, 152, rfl⟩
abbrev main_call8_v0 : Ref sig .tc := ⟨.hbm, 153, rfl⟩
abbrev main_call8_v1 : Ref sig .tc := ⟨.hbm, 154, rfl⟩
abbrev main_call8_cst : Ref sig .tc := ⟨.hbm, 155, rfl⟩
abbrev main_call8_v2 : Ref sig .tc := ⟨.hbm, 156, rfl⟩
abbrev main_call8_v3 : Ref sig .tc := ⟨.hbm, 157, rfl⟩
abbrev main_call8_cst_0 : Ref sig .tc := ⟨.hbm, 158, rfl⟩
abbrev main_call8_v4 : Ref sig .tc := ⟨.hbm, 159, rfl⟩
abbrev main_call8_v5 : Ref sig .tc := ⟨.hbm, 160, rfl⟩
abbrev main_v90 : Ref sig .tc := ⟨.hbm, 161, rfl⟩
abbrev main_v91 : Ref sig .tc := ⟨.hbm, 162, rfl⟩
abbrev main_v92 : Ref sig .tc := ⟨.hbm, 163, rfl⟩
abbrev main_v93 : Ref sig .tc := ⟨.hbm, 164, rfl⟩
abbrev main_cst_11 : Ref sig .tc := ⟨.hbm, 165, rfl⟩
abbrev main_call9_v0 : Ref sig .tc := ⟨.hbm, 166, rfl⟩
abbrev main_call9_v1 : Ref sig .tc := ⟨.hbm, 167, rfl⟩
abbrev main_call9_v2 : Ref sig .tc := ⟨.hbm, 168, rfl⟩
abbrev main_v94 : Ref sig .tc := ⟨.hbm, 169, rfl⟩
abbrev main_v95 : Ref sig .tc := ⟨.hbm, 170, rfl⟩
abbrev main_c_12 : Ref sig .tc := ⟨.hbm, 171, rfl⟩
abbrev main_v96 : Ref sig .tc := ⟨.hbm, 172, rfl⟩
abbrev main_v97 : Ref sig .tc := ⟨.hbm, 173, rfl⟩
abbrev main_v98 : Ref sig .tc := ⟨.hbm, 174, rfl⟩
abbrev main_v99 : Ref sig .tc := ⟨.hbm, 175, rfl⟩
abbrev main_v100 : Ref sig .tc := ⟨.hbm, 176, rfl⟩
abbrev main_v101 : Ref sig .tc := ⟨.hbm, 177, rfl⟩
abbrev main_v102 : Ref sig .tc := ⟨.hbm, 178, rfl⟩
abbrev main_v103 : Ref sig .tc := ⟨.hbm, 179, rfl⟩
abbrev main_v104 : Ref sig .tc := ⟨.hbm, 180, rfl⟩
abbrev main_v105 : Ref sig .tc := ⟨.hbm, 181, rfl⟩
abbrev main_call10_v0 : Ref sig .tc := ⟨.hbm, 182, rfl⟩
abbrev main_call10_v1 : Ref sig .tc := ⟨.hbm, 183, rfl⟩
abbrev main_call10_cst : Ref sig .tc := ⟨.hbm, 184, rfl⟩
abbrev main_call10_v2 : Ref sig .tc := ⟨.hbm, 185, rfl⟩
abbrev main_call10_v3 : Ref sig .tc := ⟨.hbm, 186, rfl⟩
abbrev main_call10_cst_0 : Ref sig .tc := ⟨.hbm, 187, rfl⟩
abbrev main_call10_v4 : Ref sig .tc := ⟨.hbm, 188, rfl⟩
abbrev main_call10_v5 : Ref sig .tc := ⟨.hbm, 189, rfl⟩
abbrev main_v106 : Ref sig .tc := ⟨.hbm, 190, rfl⟩
abbrev main_v107 : Ref sig .tc := ⟨.hbm, 191, rfl⟩
abbrev main_v108 : Ref sig .tc := ⟨.hbm, 192, rfl⟩
abbrev main_v109 : Ref sig .tc := ⟨.hbm, 193, rfl⟩
abbrev main_cst_13 : Ref sig .tc := ⟨.hbm, 194, rfl⟩
abbrev main_call11_v0 : Ref sig .tc := ⟨.hbm, 195, rfl⟩
abbrev main_call11_v1 : Ref sig .tc := ⟨.hbm, 196, rfl⟩
abbrev main_call11_v2 : Ref sig .tc := ⟨.hbm, 197, rfl⟩
abbrev main_v110 : Ref sig .tc := ⟨.hbm, 198, rfl⟩
abbrev main_v111 : Ref sig .tc := ⟨.hbm, 199, rfl⟩
abbrev main_c_14 : Ref sig .tc := ⟨.hbm, 200, rfl⟩
abbrev main_v112 : Ref sig .tc := ⟨.hbm, 201, rfl⟩
abbrev main_v113 : Ref sig .tc := ⟨.hbm, 202, rfl⟩
abbrev main_v114 : Ref sig .tc := ⟨.hbm, 203, rfl⟩
abbrev main_v115 : Ref sig .tc := ⟨.hbm, 204, rfl⟩
abbrev main_v116 : Ref sig .tc := ⟨.hbm, 205, rfl⟩
abbrev main_v117 : Ref sig .tc := ⟨.hbm, 206, rfl⟩
abbrev main_v118 : Ref sig .tc := ⟨.hbm, 207, rfl⟩
abbrev main_v119 : Ref sig .tc := ⟨.hbm, 208, rfl⟩
abbrev main_v120 : Ref sig .tc := ⟨.hbm, 209, rfl⟩
abbrev main_v121 : Ref sig .tc := ⟨.hbm, 210, rfl⟩
abbrev main_call12_v0 : Ref sig .tc := ⟨.hbm, 211, rfl⟩
abbrev main_call12_v1 : Ref sig .tc := ⟨.hbm, 212, rfl⟩
abbrev main_call12_cst : Ref sig .tc := ⟨.hbm, 213, rfl⟩
abbrev main_call12_v2 : Ref sig .tc := ⟨.hbm, 214, rfl⟩
abbrev main_call12_v3 : Ref sig .tc := ⟨.hbm, 215, rfl⟩
abbrev main_call12_cst_0 : Ref sig .tc := ⟨.hbm, 216, rfl⟩
abbrev main_call12_v4 : Ref sig .tc := ⟨.hbm, 217, rfl⟩
abbrev main_call12_v5 : Ref sig .tc := ⟨.hbm, 218, rfl⟩
abbrev main_v122 : Ref sig .tc := ⟨.hbm, 219, rfl⟩
abbrev main_v123 : Ref sig .tc := ⟨.hbm, 220, rfl⟩
abbrev main_v124 : Ref sig .tc := ⟨.hbm, 221, rfl⟩
abbrev main_v125 : Ref sig .tc := ⟨.hbm, 222, rfl⟩
abbrev main_cst_15 : Ref sig .tc := ⟨.hbm, 223, rfl⟩
abbrev main_call13_v0 : Ref sig .tc := ⟨.hbm, 224, rfl⟩
abbrev main_call13_v1 : Ref sig .tc := ⟨.hbm, 225, rfl⟩
abbrev main_call13_v2 : Ref sig .tc := ⟨.hbm, 226, rfl⟩
abbrev main_v126 : Ref sig .tc := ⟨.hbm, 227, rfl⟩
abbrev main_v127 : Ref sig .tc := ⟨.hbm, 228, rfl⟩
abbrev main_c_16 : Ref sig .tc := ⟨.hbm, 229, rfl⟩
abbrev main_v128 : Ref sig .tc := ⟨.hbm, 230, rfl⟩
abbrev main_v129 : Ref sig .tc := ⟨.hbm, 231, rfl⟩
abbrev main_v130 : Ref sig .tc := ⟨.hbm, 232, rfl⟩
abbrev main_v131 : Ref sig .tc := ⟨.hbm, 233, rfl⟩
abbrev main_v132 : Ref sig .tc := ⟨.hbm, 234, rfl⟩
abbrev main_v133 : Ref sig .tc := ⟨.hbm, 235, rfl⟩
abbrev main_v134 : Ref sig .tc := ⟨.hbm, 236, rfl⟩
abbrev main_v135 : Ref sig .tc := ⟨.hbm, 237, rfl⟩
abbrev main_v136 : Ref sig .tc := ⟨.hbm, 238, rfl⟩
abbrev main_v137 : Ref sig .tc := ⟨.hbm, 239, rfl⟩
abbrev main_call14_v0 : Ref sig .tc := ⟨.hbm, 240, rfl⟩
abbrev main_call14_v1 : Ref sig .tc := ⟨.hbm, 241, rfl⟩
abbrev main_call14_cst : Ref sig .tc := ⟨.hbm, 242, rfl⟩
abbrev main_call14_v2 : Ref sig .tc := ⟨.hbm, 243, rfl⟩
abbrev main_call14_v3 : Ref sig .tc := ⟨.hbm, 244, rfl⟩
abbrev main_call14_cst_0 : Ref sig .tc := ⟨.hbm, 245, rfl⟩
abbrev main_call14_v4 : Ref sig .tc := ⟨.hbm, 246, rfl⟩
abbrev main_call14_v5 : Ref sig .tc := ⟨.hbm, 247, rfl⟩
abbrev main_v138 : Ref sig .tc := ⟨.hbm, 248, rfl⟩
abbrev main_v139 : Ref sig .tc := ⟨.hbm, 249, rfl⟩
abbrev main_v140 : Ref sig .tc := ⟨.hbm, 250, rfl⟩
abbrev main_v141 : Ref sig .tc := ⟨.hbm, 251, rfl⟩
abbrev main_cst_17 : Ref sig .tc := ⟨.hbm, 252, rfl⟩
abbrev main_call15_v0 : Ref sig .tc := ⟨.hbm, 253, rfl⟩
abbrev main_call15_v1 : Ref sig .tc := ⟨.hbm, 254, rfl⟩
abbrev main_call15_v2 : Ref sig .tc := ⟨.hbm, 255, rfl⟩
abbrev main_v142 : Ref sig .tc := ⟨.hbm, 256, rfl⟩
abbrev main_v143 : Ref sig .tc := ⟨.hbm, 257, rfl⟩

abbrev nD : Nat := 1
abbrev τ : Topo := Topo.v7x

variable {F : FTy → Type} [FloatOps F]
-- ==== Ffn.lean ====
abbrev S8192x2048 : Shape := ⟨2, ![8192, 2048]⟩
abbrev S1x2048 : Shape := ⟨2, ![1, 2048]⟩
abbrev S2048x5632 : Shape := ⟨2, ![2048, 5632]⟩
abbrev S5632x2048 : Shape := ⟨2, ![5632, 2048]⟩
abbrev S1024x2048 : Shape := ⟨2, ![1024, 2048]⟩
abbrev S2048x512 : Shape := ⟨2, ![2048, 512]⟩
abbrev S512x2048 : Shape := ⟨2, ![512, 2048]⟩
abbrev S1024 : Shape := ⟨1, ![1024]⟩
abbrev S1024x1 : Shape := ⟨2, ![1024, 1]⟩
abbrev S1024x512 : Shape := ⟨2, ![1024, 512]⟩

abbrev nBuf : Space → Nat
  | .hbm => 6
  | .vmem => 11
  | .smem => 0
  | _ => 0

abbrev bufTy : (tb : Table) → Fin (tcTables nBuf tb) → BufTy
  | .hbm, ⟨0, _⟩ => ⟨S8192x2048, .f32⟩
  | .hbm, ⟨1, _⟩ => ⟨S1x2048, .f32⟩
  | .hbm, ⟨2, _⟩ => ⟨S2048x5632, .f32⟩
  | .hbm, ⟨3, _⟩ => ⟨S2048x5632, .f32⟩
  | .hbm, ⟨4, _⟩ => ⟨S5632x2048, .f32⟩
  | .hbm, ⟨5, _⟩ => ⟨S8192x2048, .f32⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S2048x512, .f32⟩
  | .local _ .vmem, ⟨4, _⟩ => ⟨S2048x512, .f32⟩
  | .local _ .vmem, ⟨5, _⟩ => ⟨S2048x512, .f32⟩
  | .local _ .vmem, ⟨6, _⟩ => ⟨S2048x512, .f32⟩
  | .local _ .vmem, ⟨7, _⟩ => ⟨S512x2048, .f32⟩
  | .local _ .vmem, ⟨8, _⟩ => ⟨S512x2048, .f32⟩
  | .local _ .vmem, ⟨9, _⟩ => ⟨S1024x2048, .f32⟩
  | .local _ .vmem, ⟨10, _⟩ => ⟨S1024x2048, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9

abbrev nD : Nat := 1
abbrev τ : Topo := Topo.v7x

variable {F : FTy → Type} [FloatOps F]

abbrev grid0 : Pipeline.Grid := ⟨2, ![8, 11], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2048x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 1 → Memref sig .tc .vmem S1024x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, false]
-- ==== FfnReferenceIdeal.lean ====
abbrev S8192x2048 : Shape := ⟨2, ![8192, 2048]⟩
abbrev S1x2048 : Shape := ⟨2, ![1, 2048]⟩
abbrev S2048x5632 : Shape := ⟨2, ![2048, 5632]⟩
abbrev S5632x2048 : Shape := ⟨2, ![5632, 2048]⟩
abbrev S_ : Shape := ⟨0, ![]⟩
abbrev S8192 : Shape := ⟨1, ![8192]⟩
abbrev S8192x1 : Shape := ⟨2, ![8192, 1]⟩
abbrev S8192x5632 : Shape := ⟨2, ![8192, 5632]⟩

abbrev nBuf : Space → Nat
  | .hbm => 34
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S1x2048, .f32⟩
  | .hbm, ⟨2, _⟩ => ⟨S2048x5632, .f32⟩
  | .hbm, ⟨3, _⟩ => ⟨S2048x5632, .f32⟩
  | .hbm, ⟨4, _⟩ => ⟨S5632x2048, .f32⟩
  | .hbm, ⟨5, _⟩ => ⟨S8192x2048, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x2048, .f32⟩
  | .hbm, ⟨17, _⟩ => ⟨S8192x2048, .f32⟩
  | .hbm, ⟨18, _⟩ => ⟨S8192x2048, .f32⟩
  | .hbm, ⟨19, _⟩ => ⟨S8192x2048, .f32⟩
  | .hbm, ⟨20, _⟩ => ⟨S8192x5632, .f32⟩
  | .hbm, ⟨21, _⟩ => ⟨S8192x5632, .f32⟩
  | .hbm, ⟨22, _⟩ => ⟨S8192x5632, .f32⟩
  | .hbm, ⟨23, _⟩ => ⟨S_, .f32⟩
  | .hbm, ⟨24, _⟩ => ⟨S8192x5632, .f32⟩
  | .hbm, ⟨25, _⟩ => ⟨S8192x5632, .f32⟩
  | .hbm, ⟨26, _⟩ => ⟨S_, .f32⟩
  | .hbm, ⟨27, _⟩ => ⟨S8192x5632, .f32⟩
  | .hbm, ⟨28, _⟩ => ⟨S8192x5632, .f32⟩
  | .hbm, ⟨29, _⟩ => ⟨S8192x5632, .f32⟩
  | .hbm, ⟨30, _⟩ => ⟨S8192x5632, .f32⟩
  | .hbm, ⟨31, _⟩ => ⟨S8192x5632, .f32⟩
  | .hbm, ⟨32, _⟩ => ⟨S8192x2048, .f32⟩
  | .hbm, ⟨33, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_call0_v0 : Ref sig .tc := ⟨.hbm, 21, rfl⟩
abbrev main_call0_v1 : Ref sig .tc := ⟨.hbm, 22, rfl⟩
abbrev main_call0_cst : Ref sig .tc := ⟨.hbm, 23, rfl⟩
abbrev main_call0_v2 : Ref sig .tc := ⟨.hbm, 24, rfl⟩
abbrev main_call0_v3 : Ref sig .tc := ⟨.hbm, 25, rfl⟩
abbrev main_call0_cst_0 : Ref sig .tc := ⟨.hbm, 26, rfl⟩
abbrev main_call0_v4 : Ref sig .tc := ⟨.hbm, 27, rfl⟩
abbrev main_call0_v5 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩

abbrev nD : Nat := 1
abbrev τ : Topo := Topo.v7x

variable {F : FTy → Type} [FloatOps F]
-- ==== Fox.lean ====
abbrev S136 : Shape := ⟨1, ![136]⟩
abbrev S8x8192x1024 : Shape := ⟨3, ![8, 8192, 1024]⟩
abbrev S2x16x1024x512 : Shape := ⟨4, ![2, 16, 1024, 512]⟩
abbrev S8x8192x128 : Shape := ⟨3, ![8, 8192, 128]⟩
abbrev S8192x1024 : Shape := ⟨2, ![8192, 1024]⟩
abbrev S1x512x1024 : Shape := ⟨3, ![1, 512, 1024]⟩
abbrev S1 : Shape := ⟨1, ![1]⟩
abbrev S1x1x1024x512 : Shape := ⟨4, ![1, 1, 1024, 512]⟩
abbrev S8x512x128 : Shape := ⟨3, ![8, 512, 128]⟩
abbrev S512x1024 : Shape := ⟨2, ![512, 1024]⟩
abbrev S1024x512 : Shape := ⟨2, ![1024, 512]⟩
abbrev S8x512x512 : Shape := ⟨3, ![8, 512, 512]⟩
abbrev S8x512 : Shape := ⟨2, ![8, 512]⟩
abbrev S512x128 : Shape := ⟨2, ![512, 128]⟩
abbrev S128x512 : Shape := ⟨2, ![128, 512]⟩
abbrev S1x512x128 : Shape := ⟨3, ![1, 512, 128]⟩
abbrev S512x512 : Shape := ⟨2, ![512, 512]⟩
abbrev S1x512x512 : Shape := ⟨3, ![1, 512, 512]⟩
abbrev S1x512 : Shape := ⟨2, ![1, 512]⟩
abbrev S512 : Shape := ⟨1, ![512]⟩
abbrev S1x1x128x512 : Shape := ⟨4, ![1, 1, 128, 512]⟩

abbrev nBuf : Space → Nat
  | .hbm => 6
  | .vmem => 18
  | .smem => 2
  | _ => 0

abbrev bufTy : (tb : Table) → Fin (tcTables nBuf tb) → BufTy
  | .hbm, ⟨0, _⟩ => ⟨S8x8192x1024, .bf16⟩
  | .hbm, ⟨1, _⟩ => ⟨S8x8192x1024, .bf16⟩
  | .hbm, ⟨2, _⟩ => ⟨S8x8192x1024, .bf16⟩
  | .hbm, ⟨3, _⟩ => ⟨S2x16x1024x512, .bf16⟩
  | .hbm, ⟨4, _⟩ => ⟨S8x8192x128, .f32⟩
  | .hbm, ⟨5, _⟩ => ⟨S8192x1024, .bf16⟩
  | .local _ .vmem, ⟨0, _⟩ => ⟨S1x512x1024, .bf16⟩
  | .local _ .vmem, ⟨1, _⟩ => ⟨S1x512x1024, .bf16⟩
  | .local _ .vmem, ⟨2, _⟩ => ⟨S1x512x1024, .bf16⟩
  | .local _ .vmem, ⟨3, _⟩ => ⟨S1x512x1024, .bf16⟩
  | .local _ .vmem, ⟨4, _⟩ => ⟨S1x1x1024x512, .bf16⟩
  | .local _ .vmem, ⟨5, _⟩ => ⟨S1x1x1024x512, .bf16⟩
  | .local _ .vmem, ⟨6, _⟩ => ⟨S1x512x1024, .bf16⟩
  | .local _ .vmem, ⟨7, _⟩ => ⟨S1x512x1024, .bf16⟩
  | .local _ .vmem, ⟨8, _⟩ => ⟨S8x512x128, .f32⟩
  | .local _ .vmem, ⟨9, _⟩ => ⟨S8x512x128, .f32⟩
  | .local _ .vmem, ⟨10, _⟩ => ⟨S512x1024, .bf16⟩
  | .local _ .vmem, ⟨11, _⟩ => ⟨S512x1024, .bf16⟩
  | .local _ .vmem, ⟨12, _⟩ => ⟨S1024x512, .bf16⟩
  | .local _ .vmem, ⟨13, _⟩ => ⟨S8x512x512, .f32⟩
  | .local _ .vmem, ⟨14, _⟩ => ⟨S8x512, .f32⟩
  | .local _ .vmem, ⟨15, _⟩ => ⟨S8x512, .f32⟩
  | .local _ .vmem, ⟨16, _⟩ => ⟨S8x512, .f32⟩
  | .local _ .vmem, ⟨17, _⟩ => ⟨S1024x512, .f32⟩
  | .local _ .smem, ⟨0, _⟩ => ⟨S136, .i32⟩
  | .local _ .smem, ⟨1, _⟩ => ⟨S136, .i32⟩
  | _, _ => ⟨S8x8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg2 : Ref sig .tc := ⟨.hbm, 0, rfl⟩
abbrev main_arg3 : Ref sig .tc := ⟨.hbm, 1, rfl⟩
abbrev main_arg4 : Ref sig .tc := ⟨.hbm, 2, rfl⟩
abbrev main_arg5 : Ref sig .tc := ⟨.hbm, 3, rfl⟩
abbrev main_arg6 : Ref sig .tc := ⟨.hbm, 4, rfl⟩
abbrev main_v0 : Ref sig .tc := ⟨.hbm, 5, rfl⟩
abbrev main_arg0 : Ref sig .tc := ⟨.smem, 0, rfl⟩
abbrev main_arg1 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_scratch3 : Ref sig .tc := ⟨.vmem, 15, rfl⟩
abbrev cc0_scratch4 : Ref sig .tc := ⟨.vmem, 16, rfl⟩
abbrev cc0_scratch5 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨1, ![136], ![false]⟩

abbrev pre0 : Pipeline.Prefetch sig := ⟨2, ![main_arg0.idx, main_arg1.idx], fun | 0 => main_arg0.names | 1 => main_arg1.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_cond3 (v1 : BitVec 32) (v3 : BitVec 32) : BitVec 1 :=
  let v10 : BitVec 1 := Scalar.cmpi .eq v3 v1
  let v11 : BitVec 32 := Scalar.extui v10
  let c0_i32_2 : BitVec 32 := 0#32
  let v12 : BitVec 1 := Scalar.cmpi .ne v11 c0_i32_2
  v12

def cc0_transform_0 (k0_off1_inb : ∀ i : grid0.Coords, ∀ a, (k0_off1 i) a + S1.size a ≤ S136.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S136) ![v0.toNat] S1.size (k0_off1_inb i)) numel1_S1
  let c4_i32 : BitVec 32 := 4#32
  let c0_i32 : BitVec 32 := 0#32
  let c0_i32_0 : BitVec 32 := 0#32
  ![c4_i32.toNat, v1.toNat, c0_i32.toNat]

def cc0_transform_1 (k0_off1_inb : ∀ i : grid0.Coords, ∀ a, (k0_off1 i) a + S1.size a ≤ S136.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 1 (Rect.unit (s := S136) ![v0.toNat] S1.size (k0_off1_inb i)) numel1_S1
  let c5_i32 : BitVec 32 := 5#32
  let c0_i32 : BitVec 32 := 0#32
  let c0_i32_0 : BitVec 32 := 0#32
  ![c5_i32.toNat, v1.toNat, c0_i32.toNat]

def cc0_transform_2 (k0_off1_inb : ∀ i : grid0.Coords, ∀ a, (k0_off1 i) a + S1.size a ≤ S136.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 1 (Rect.unit (s := S136) ![v0.toNat] S1.size (k0_off1_inb i)) numel1_S1
  let c1_i32 : BitVec 32 := 1#32
  let c0_i32 : BitVec 32 := 0#32
  let c0_i32_0 : BitVec 32 := 0#32
  let c0_i32_1 : BitVec 32 := 0#32
  ![c1_i32.toNat, v1.toNat, c0_i32.toNat, c0_i32_0.toNat]

def cc0_transform_3 (k0_off1_inb : ∀ i : grid0.Coords, ∀ a, (k0_off1 i) a + S1.size a ≤ S136.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S136) ![v0.toNat] S1.size (k0_off1_inb i)) numel1_S1
  let c7_i32 : BitVec 32 := 7#32
  let c0_i32 : BitVec 32 := 0#32
  let c0_i32_0 : BitVec 32 := 0#32
  ![c7_i32.toNat, v1.toNat, c0_i32.toNat]

def cc0_transform_4 (k0_off1_inb : ∀ i : grid0.Coords, ∀ a, (k0_off1 i) a + S1.size a ≤ S136.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 1 (Rect.unit (s := S136) ![v0.toNat] S1.size (k0_off1_inb i)) numel1_S1
  let c0_i32 : BitVec 32 := 0#32
  let c0_i32_0 : BitVec 32 := 0#32
  let c0_i32_1 : BitVec 32 := 0#32
  ![c0_i32.toNat, v1.toNat, c0_i32_0.toNat]

def cc0_transform_5 (k0_off1_inb : ∀ i : grid0.Coords, ∀ a, (k0_off1 i) a + S1.size a ≤ S136.size a) (numel1_S1 : S1.numel = 1) (pf : pre0.Contents (Elt F)) (i : grid0.Coords) : Fin 2 → Nat :=
  let arg0 : BitVec 32 := BitVec.ofNat 32 (i 0).val
  let v0 : Index := Scalar.indexCast arg0
  let v1 : BitVec 32 := pf.at 0 (Rect.unit (s := S136) ![v0.toNat] S1.size (k0_off1_inb i)) numel1_S1
  let c0_i32 : BitVec 32 := 0#32
  let c0_i32_0 : BitVec 32 := 0#32
  ![v1.toNat, c0_i32.toNat]

abbrev stage0_0 : Fin 2 → Memref sig .tc .vmem S1x512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S8x512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== FoxIdeal.lean ====
variable {F : FTy → Type} [FloatOps F] [Named F]
def κ : String → Option EReal := fun
  | "mask" => some ⊥
  | _ => none
-- ==== FoxReferenceIdeal.lean ====
abbrev S136 : Shape := ⟨1, ![136]⟩
abbrev S8x8192x1024 : Shape := ⟨3, ![8, 8192, 1024]⟩
abbrev S2x16x1024x512 : Shape := ⟨4, ![2, 16, 1024, 512]⟩
abbrev S8x8192x128 : Shape := ⟨3, ![8, 8192, 128]⟩
abbrev S1x8192x1024 : Shape := ⟨3, ![1, 8192, 1024]⟩
abbrev S8192x1024 : Shape := ⟨2, ![8192, 1024]⟩
abbrev S8192x8x128 : Shape := ⟨3, ![8192, 8, 128]⟩
abbrev S1x16x1024x512 : Shape := ⟨4, ![1, 16, 1024, 512]⟩
abbrev S16x1024x512 : Shape := ⟨3, ![16, 1024, 512]⟩
abbrev S16x512x1024 : Shape := ⟨3, ![16, 512, 1024]⟩
abbrev S8x8192x1 : Shape := ⟨3, ![8, 8192, 1]⟩
abbrev S8x8192 : Shape := ⟨2, ![8, 8192]⟩
abbrev S8x8192x8192 : Shape := ⟨3, ![8, 8192, 8192]⟩
abbrev S8x1x8192 : Shape := ⟨3, ![8, 1, 8192]⟩
abbrev S8192 : Shape := ⟨1, ![8192]⟩
abbrev S1x8192 : Shape := ⟨2, ![1, 8192]⟩
abbrev S8192x1 : Shape := ⟨2, ![8192, 1]⟩
abbrev S8192x8192 : Shape := ⟨2, ![8192, 8192]⟩
abbrev S1x8192x8192 : Shape := ⟨3, ![1, 8192, 8192]⟩
abbrev S_ : Shape := ⟨0, ![]⟩
abbrev S8x128x8192 : Shape := ⟨3, ![8, 128, 8192]⟩

abbrev nBuf : Space → Nat
  | .hbm => 66
  | .vmem => 0
  | .smem => 0
  | _ => 0

abbrev bufTy : (tb : Table) → Fin (tcTables nBuf tb) → BufTy
  | .hbm, ⟨0, _⟩ => ⟨S136, .i32⟩
  | .hbm, ⟨1, _⟩ => ⟨S136, .i32⟩
  | .hbm, ⟨2, _⟩ => ⟨S8x8192x1024, .bf16⟩
  | .hbm, ⟨3, _⟩ => ⟨S8x8192x1024, .bf16⟩
  | .hbm, ⟨4, _⟩ => ⟨S8x8192x1024, .bf16⟩
  | .hbm, ⟨5, _⟩ => ⟨S2x16x1024x512, .bf16⟩
  | .hbm, ⟨6, _⟩ => ⟨S8x8192x128, .f32⟩
  | .hbm, ⟨7, _⟩ => ⟨S1x8192x1024, .bf16⟩
  | .hbm, ⟨8, _⟩ => ⟨S8192x1024, .bf16⟩
  | .hbm, ⟨9, _⟩ => ⟨S8192x1024, .f32⟩
  | .hbm, ⟨10, _⟩ => ⟨S8192x8x128, .f32⟩
  | .hbm, ⟨11, _⟩ => ⟨S1x8192x1024, .bf16⟩
  | .hbm, ⟨12, _⟩ => ⟨S8192x1024, .bf16⟩
  | .hbm, ⟨13, _⟩ => ⟨S8192x1024, .f32⟩
  | .hbm, ⟨14, _⟩ => ⟨S8192x8x128, .f32⟩
  | .hbm, ⟨15, _⟩ => ⟨S1x8192x1024, .bf16⟩
  | .hbm, ⟨16, _⟩ => ⟨S8192x1024, .bf16⟩
  | .hbm, ⟨17, _⟩ => ⟨S8192x1024, .f32⟩
  | .hbm, ⟨18, _⟩ => ⟨S8192x8x128, .f32⟩
  | .hbm, ⟨19, _⟩ => ⟨S1x16x1024x512, .bf16⟩
  | .hbm, ⟨20, _⟩ => ⟨S16x1024x512, .bf16⟩
  | .hbm, ⟨21, _⟩ => ⟨S16x512x1024, .bf16⟩
  | .hbm, ⟨22, _⟩ => ⟨S16x512x1024, .f32⟩
  | .hbm, ⟨23, _⟩ => ⟨S8192x8x128, .f32⟩
  | .hbm, ⟨24, _⟩ => ⟨S8x8192x1, .f32⟩
  | .hbm, ⟨25, _⟩ => ⟨S8x8192, .f32⟩
  | .hbm, ⟨26, _⟩ => ⟨S8x8192x8192, .f32⟩
  | .hbm, ⟨27, _⟩ => ⟨S8x8192x1, .f32⟩
  | .hbm, ⟨28, _⟩ => ⟨S8x8192x8192, .f32⟩
  | .hbm, ⟨29, _⟩ => ⟨S8x8192x8192, .f32⟩
  | .hbm, ⟨30, _⟩ => ⟨S8x1x8192, .f32⟩
  | .hbm, ⟨31, _⟩ => ⟨S8x8192x8192, .f32⟩
  | .hbm, ⟨32, _⟩ => ⟨S8x8192x8192, .f32⟩
  | .hbm, ⟨33, _⟩ => ⟨S8192, .i32⟩
  | .hbm, ⟨34, _⟩ => ⟨S1x8192, .i32⟩
  | .hbm, ⟨35, _⟩ => ⟨S8192x1, .i32⟩
  | .hbm, ⟨36, _⟩ => ⟨S8192x8192, .i32⟩
  | .hbm, ⟨37, _⟩ => ⟨S8192x8192, .i32⟩
  | .hbm, ⟨38, _⟩ => ⟨S8192x8192, .i1⟩
  | .hbm, ⟨39, _⟩ => ⟨S1x8192x8192, .i1⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S8x8192x8192, .f32⟩
  | .hbm, ⟨44, _⟩ => ⟨S8x8192x8192, .f32⟩
  | .hbm, ⟨45, _⟩ => ⟨S_, .f32⟩
  | .hbm, ⟨46, _⟩ => ⟨S_, .f32⟩
  | .hbm, ⟨47, _⟩ => ⟨S8x8192x8192, .i1⟩
  | .hbm, ⟨48, _⟩ => ⟨S8x8192x8192, .f32⟩
  | .hbm, ⟨49, _⟩ => ⟨S8x8192x8192, .f32⟩
  | .hbm, ⟨50, _⟩ => ⟨S_, .f32⟩
  | .hbm, ⟨51, _⟩ => ⟨S8x8192, .f32⟩
  | .hbm, ⟨52, _⟩ => ⟨S8x8192x1, .f32⟩
  | .hbm, ⟨53, _⟩ => ⟨S8x8192x8192, .f32⟩
  | .hbm, ⟨54, _⟩ => ⟨S8x8192x8192, .f32⟩
  | .hbm, ⟨55, _⟩ => ⟨S8x8192x8192, .f32⟩
  | .hbm, ⟨56, _⟩ => ⟨S_, .f32⟩
  | .hbm, ⟨57, _⟩ => ⟨S8x8192, .f32⟩
  | .hbm, ⟨58, _⟩ => ⟨S8x8192x1, .f32⟩
  | .hbm, ⟨59, _⟩ => ⟨S8x8192x8192, .f32⟩
  | .hbm, ⟨60, _⟩ => ⟨S8x8192x8192, .f32⟩
  | .hbm, ⟨61, _⟩ => ⟨S8x128x8192, .f32⟩
  | .hbm, ⟨62, _⟩ => ⟨S8192x8x128, .f32⟩
  | .hbm, ⟨63, _⟩ => ⟨S8192x8x128, .f32⟩
  | .hbm, ⟨64, _⟩ => ⟨S8192x1024, .f32⟩
  | .hbm, ⟨65, _⟩ => ⟨S8192x1024, .bf16⟩
  | _, _ => ⟨S136, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_cst : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_cst_0 : Ref sig .tc := ⟨.hbm, 45, rfl⟩
abbrev main_call0_v0 : Ref sig .tc := ⟨.hbm, 46, rfl⟩
abbrev main_call0_v1 : Ref sig .tc := ⟨.hbm, 47, rfl⟩
abbrev main_call0_v2 : Ref sig .tc := ⟨.hbm, 48, rfl⟩
abbrev main_v37 : Ref sig .tc := ⟨.hbm, 49, rfl⟩
abbrev main_cst_1 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_cst_2 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩

abbrev nD : Nat := 1
abbrev τ : Topo := Topo.v7x

variable {F : FTy → Type} [FloatOps F]
-- ==== OutProj.lean ====
abbrev S8192x2048 : Shape := ⟨2, ![8192, 2048]⟩
abbrev S8192x1024 : Shape := ⟨2, ![8192, 1024]⟩
abbrev S1024x2048 : Shape := ⟨2, ![1024, 2048]⟩
abbrev S512x2048 : Shape := ⟨2, ![512, 2048]⟩
abbrev S512x1024 : Shape := ⟨2, ![512, 1024]⟩

abbrev nBuf : Space → Nat
  | .hbm => 6
  | .vmem => 10
  | .smem => 0
  | _ => 0

abbrev bufTy : (tb : Table) → Fin (tcTables nBuf tb) → BufTy
  | .hbm, ⟨0, _⟩ => ⟨S8192x2048, .f32⟩
  | .hbm, ⟨1, _⟩ => ⟨S8192x1024, .bf16⟩
  | .hbm, ⟨2, _⟩ => ⟨S8192x1024, .bf16⟩
  | .hbm, ⟨3, _⟩ => ⟨S1024x2048, .bf16⟩
  | .hbm, ⟨4, _⟩ => ⟨S1024x2048, .bf16⟩
  | .hbm, ⟨5, _⟩ => ⟨S8192x2048, .f32⟩
  | .local _ .vmem, ⟨0, _⟩ => ⟨S512x2048, .f32⟩
  | .local _ .vmem, ⟨1, _⟩ => ⟨S512x2048, .f32⟩
  | .local _ .vmem, ⟨2, _⟩ => ⟨S512x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S1024x2048, .bf16⟩
  | .local _ .vmem, ⟨7, _⟩ => ⟨S1024x2048, .bf16⟩
  | .local _ .vmem, ⟨8, _⟩ => ⟨S512x2048, .f32⟩
  | .local _ .vmem, ⟨9, _⟩ => ⟨S512x2048, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== OutProjReferenceIdeal.lean ====
abbrev S8192x2048 : Shape := ⟨2, ![8192, 2048]⟩
abbrev S8192x1024 : Shape := ⟨2, ![8192, 1024]⟩
abbrev S1024x2048 : Shape := ⟨2, ![1024, 2048]⟩
abbrev S2048x2048 : Shape := ⟨2, ![2048, 2048]⟩

abbrev nBuf : Space → Nat
  | .hbm => 11
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x1024, .bf16⟩
  | .hbm, ⟨2, _⟩ => ⟨S8192x1024, .bf16⟩
  | .hbm, ⟨3, _⟩ => ⟨S1024x2048, .bf16⟩
  | .hbm, ⟨4, _⟩ => ⟨S1024x2048, .bf16⟩
  | .hbm, ⟨5, _⟩ => ⟨S8192x2048, .bf16⟩
  | .hbm, ⟨6, _⟩ => ⟨S8192x2048, .f32⟩
  | .hbm, ⟨7, _⟩ => ⟨S2048x2048, .bf16⟩
  | .hbm, ⟨8, _⟩ => ⟨S2048x2048, .f32⟩
  | .hbm, ⟨9, _⟩ => ⟨S8192x2048, .f32⟩
  | .hbm, ⟨10, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩

abbrev nD : Nat := 1
abbrev τ : Topo := Topo.v7x

variable {F : FTy → Type} [FloatOps F]
-- ==== Proof.Experts.Range.lean ====
/- The experts' precondition, read: every entry of the table of experts is one of 0 to 7. -/
module

public import proofs.«01_k».proof.Proof.Gen.Pre_experts
public import Idealize.ShloMosaic.Lib.Affine

@[expose] public section

noncomputable section

namespace Cert.ExpertsRange

open Idealize.ShloMosaic Cert.Pre_experts

variable {F : FTy → Type} [FloatOps F]

theorem le7 (a0 a1 : IVec S23 32) (a2 : IVec S24656x1024 32) (a3 a4 : FVec F S8x2048x7168 .f32) (a5 : FVec F S8x7168x2048 .f32)
    (h : fn (F := F) a0 a1 a2 a3 a4 a5 = fun _ => 1#1) (j : S23.Idx) : (a0 j).toNat ≤ 7 := by
  have hj : IntOp.andi (IntOp.cmpi .sge (a0 j) 0#32) (IntOp.cmpi .sle (a0 j) 7#32) = 1#1 := congrFun h j
  rw [IntOp.andi_eq_one, IntOp.cmpi_sge, IntOp.cmpi_sle] at hj
  obtain ⟨h0, h7⟩ := hj
  rw [show (0#32).toInt = 0 from rfl] at h0
  rw [show (7#32).toInt = 7 from rfl] at h7
  have := BitVec.toInt_eq_toNat_cond (a0 j)
  have hl := (a0 j).isLt
  split at this <;> omega

end Cert.ExpertsRange

end
-- ==== Proof.Swiglu.lean ====
/- The mathematics of a SwiGLU feed-forward layer over the extended reals, shared by the dense layer and the experts: the
   normalised row, one hidden unit's activation, and a sum over the hidden units taken tile by tile. -/
module

public import Idealize.ShloMosaic.PureOps.Ideal
public import Idealize.ShloMosaic.Lib.Pointwise

@[expose] public section

noncomputable section

namespace Cert.Swiglu

open Idealize.ShloMosaic
open scoped BigOperators

/-- Entry `k` of a row over its root mean square (the row has 2048 entries, and 1e-6 is added to the mean), scaled. -/
def norm (x g : Fin 2048 → EReal) (k : Fin 2048) : EReal :=
  x k * Ideal.rsqrt (Ideal.div (∑ k, x k * x k) (Ideal.ofBits FTy.f32 0x45000000#32) + Ideal.ofBits FTy.f32 0x358637BD#32) * g k

/-- One hidden unit: `silu (h · wg) * (h · wu)`. -/
def act (h wg wu : Fin 2048 → EReal) : EReal :=
  (∑ k, h k * wg k) * Ideal.logistic (∑ k, h k * wg k) * ∑ k, h k * wu k

/-- Tile `j` of a sum of `N` terms, in tiles of `T`. -/
def tile (T : ℕ) {N : ℕ} (g : Fin N → EReal) (j : ℕ) : EReal :=
  ∑ q : Fin T, if h : T * j + q.val < N then g ⟨T * j + q.val, h⟩ else 0

theorem tile_eq (T : ℕ) {N : ℕ} (g : Fin N → EReal) (j : ℕ) (hj : T * (j + 1) ≤ N) (F : Fin T → EReal)
    (hF : ∀ q : Fin T, ∀ h : T * j + q.val < N, F q = g ⟨T * j + q.val, h⟩) : ∑ q, F q = tile T g j := by
  refine Finset.sum_congr rfl fun q _ => ?_
  have h : T * j + q.val < N := by have := q.isLt; rw [Nat.mul_succ] at hj; omega
  rw [dif_pos h]; exact hF q h

/-- The tiles make up the sum. -/
theorem sum_tiles (T J : ℕ) {N : ℕ} (hN : T * J = N) (g : Fin N → EReal) :
    ∑ j ∈ Finset.range J, tile T g j = ∑ f, g f := by
  have key : ∀ G : ℕ → EReal, ∀ J : ℕ,
      ∑ j ∈ Finset.range J, ∑ q ∈ Finset.range T, G (T * j + q) = ∑ f ∈ Finset.range (T * J), G f := by
    intro G J
    induction J with
    | zero => simp
    | succ J ih => rw [Finset.sum_range_succ, ih, Nat.mul_succ, Finset.sum_range_add]
  have := key (fun n => if h : n < N then g ⟨n, h⟩ else 0) J
  rw [hN, Finset.sum_range (n := N)] at this
  rw [show (∑ f : Fin N, g f) = ∑ i : Fin N, (if h : (i : ℕ) < N then g ⟨i, h⟩ else 0) from
    Finset.sum_congr rfl fun i _ => by rw [dif_pos i.isLt], ← this]
  exact Finset.sum_congr rfl fun j _ => (Finset.sum_range (fun q => if h : T * j + q < N then g ⟨T * j + q, h⟩ else 0)).symm

end Cert.Swiglu

end
-- ==== Proof.Experts.Layer.lean ====
/- The mathematics of the experts' call over the extended reals: a row's packed words unpacked, and the SwiGLU of the row's expert. -/
module

public import proofs.«01_k».proof.Proof.Swiglu

@[expose] public section

noncomputable section

namespace Cert.Experts.Layer

open Idealize.ShloMosaic Cert
open scoped BigOperators

/-- An entry of a row of packed words: the low half of the word of its column, or the high half of the word 1024 columns before. -/
def unpack (w : Fin 1024 → BitVec 32) (k : Fin 2048) : EReal :=
  if h : k.val < 1024 then Ideal.ofBits .f32 (w ⟨k.val, h⟩ <<< 16)
  else Ideal.ofBits .f32 (w ⟨k.val - 1024, by have := k.isLt; omega⟩ &&& 4294901760#32)

/-- The share of hidden unit `f` in entry `d` of a row's SwiGLU. -/
def unit (w : Fin 1024 → BitVec 32) (wg wu : Fin 2048 → Fin 7168 → EReal) (wd : Fin 7168 → Fin 2048 → EReal) (d : Fin 2048) (f : Fin 7168) : EReal :=
  Swiglu.act (unpack w) (fun k => wg k f) (fun k => wu k f) * wd f d

/-- The expert that a word of the table names. -/
abbrev expert (e : BitVec 32) : Fin 8 := ⟨e.toNat % 8, Nat.mod_lt _ (by decide)⟩

/-- Entry `d` of a row of an item with expert `e` and count `n`: the expert's SwiGLU of the row, or zero if the item has no rows. -/
def entry (e n : BitVec 32) (w : Fin 1024 → BitVec 32) (Wg Wu : Fin 8 → Fin 2048 → Fin 7168 → EReal) (Wd : Fin 8 → Fin 7168 → Fin 2048 → EReal)
    (d : Fin 2048) : EReal :=
  if 0 < n.toInt then ∑ f, unit w (Wg (expert e)) (Wu (expert e)) (Wd (expert e)) d f else 0

end Cert.Experts.Layer

end
-- ==== Proof.Experts.Reference.lean ====
/- The experts' reference, element by element: the sum over the experts keeps the share of the row's own expert. -/
module

public import proofs.«01_k».proof.Proof.Experts.Layer
public import proofs.«01_k».proof.Proof.Gen.ExpertsReferenceIdeal.Run
public import proofs.«01_k».proof.Proof.Gen.ExpertsReferenceIdeal.Read
public import Idealize.ShloMosaic.Lib.Affine

@[expose] public section

noncomputable section

open Idealize.ShloMosaic Idealize.ShloMosaic.TcCoe Idealize.SL.Sem

namespace Cert.ExpertsReferenceIdeal.Sum

open Cert.ExpertsReferenceIdeal Cert.ExpertsReferenceIdeal.Gen Cert.ExpertsReferenceIdeal.Read
open Cert.Experts.Layer (unpack unit expert entry)

variable (E N : S23.Idx → BitVec 32) (X : S24656x1024.Idx → BitVec 32) (Wg Wu : S8x2048x7168.Idx → EReal) (Wd : S8x7168x2048.Idx → EReal)

/-- The item that holds a row. -/
abbrev itemOf (r : Fin 24656) : Fin 23 := ⟨r.val / 1072, by have := r.isLt; omega⟩

theorem expert_apply (r : Fin 24656) : val_main_v9 (F := Ideal) E (ix2 r 0) = E (Idealize.ShloMosaic.ValueIdx.ix1 (itemOf r)) := by
  rw [val_main_v9_apply, val_main_v8_apply, val_main_v7_apply]
  congr 1
  funext a
  fin_cases a
  rfl

theorem used_apply (r : Fin 24656) :
    val_main_v14 (F := Ideal) N (ix2 r 0) = IntOp.cmpi .sgt (N (Idealize.ShloMosaic.ValueIdx.ix1 (itemOf r))) 0#32 := by
  rw [val_main_v14_apply, val_main_v12_apply, val_main_v11_apply, val_main_v10_apply, val_main_v13_apply]
  refine congrArg₂ (IntOp.cmpi .sgt) ?_ rfl
  congr 1
  funext a
  fin_cases a
  rfl

theorem hidden (r : Fin 24656) (k : Fin 2048) :
    val_main_v6 (F := Ideal) X (ix2 r k) = unpack (fun k => X (ix2 r k)) k := by
  pointwise [val_main_v6, val_main_v5, val_main_v4, val_main_v3, val_main_v2, val_main_v1, val_main_v0, val_main_c, val_main_c_0]
  rfl

theorem zero_const : (id (constant (F := Ideal) S_ FTy.f32 0#32) ix0 : EReal) = 0 := by
  exact Ideal.ofBits_zero_f32

/-- The share of the expert that word `w` names, number `e`: its SwiGLU of the row, or zero if the row is another's. -/
def share (w : BitVec 32) (e : Fin 8) (r : Fin 24656) (d : Fin 2048) : EReal :=
  if IntOp.andi (IntOp.cmpi .sgt (N (Idealize.ShloMosaic.ValueIdx.ix1 (itemOf r))) 0#32)
      (IntOp.cmpi .eq (E (Idealize.ShloMosaic.ValueIdx.ix1 (itemOf r))) w) = 1#1 then
    ∑ f, unit (fun k => X (ix2 r k)) (fun k f => Wg (ix3 e k f)) (fun k f => Wu (ix3 e k f)) (fun f d => Wd (ix3 e f d)) d f
  else 0

theorem term0 (r : Fin 24656) (d : Fin 2048) :
    val_main_v30 (F := Ideal) E N X Wg Wu Wd (ix2 r d) = share E N X Wg Wu Wd 0#32 0 r d := by
  pointwise [val_main_v30, val_main_call1_v1, val_main_v18, val_main_v17, val_main_v16, val_main_c_2, val_main_v29, val_main_v28,
    val_main_v26, val_main_v25, val_main_v20, val_main_v19, val_main_call0_v5, val_main_call0_v4, val_main_call0_cst_0,
    val_main_call0_v3, val_main_call0_v2, val_main_call0_cst, val_main_call0_v1, val_main_call0_v0, val_main_v27, val_main_v22,
    val_main_v21, val_main_v24, val_main_v23, val_main_call1_v2, val_main_call1_v0, val_main_cst_3]
  simp only [hidden]
  unfold share
  rw [← used_apply N r, ← expert_apply E r, ← zero_const]
  rfl

theorem term1 (r : Fin 24656) (d : Fin 2048) :
    val_main_v46 (F := Ideal) E N X Wg Wu Wd (ix2 r d) = share E N X Wg Wu Wd 1#32 1 r d := by
  pointwise [val_main_v46, val_main_call3_v1, val_main_v34, val_main_v33, val_main_v32, val_main_c_4, val_main_v45, val_main_v44,
    val_main_v42, val_main_v41, val_main_v36, val_main_v35, val_main_call2_v5, val_main_call2_v4, val_main_call2_cst_0,
    val_main_call2_v3, val_main_call2_v2, val_main_call2_cst, val_main_call2_v1, val_main_call2_v0, val_main_v43, val_main_v38,
    val_main_v37, val_main_v40, val_main_v39, val_main_call3_v2, val_main_call3_v0, val_main_cst_5]
  simp only [hidden]
  unfold share
  rw [← used_apply N r, ← expert_apply E r, ← zero_const]
  rfl

theorem term2 (r : Fin 24656) (d : Fin 2048) :
    val_main_v62 (F := Ideal) E N X Wg Wu Wd (ix2 r d) = share E N X Wg Wu Wd 2#32 2 r d := by
  pointwise [val_main_v62, val_main_call5_v1, val_main_v50, val_main_v49, val_main_v48, val_main_c_6, val_main_v61, val_main_v60,
    val_main_v58, val_main_v57, val_main_v52, val_main_v51, val_main_call4_v5, val_main_call4_v4, val_main_call4_cst_0,
    val_main_call4_v3, val_main_call4_v2, val_main_call4_cst, val_main_call4_v1, val_main_call4_v0, val_main_v59, val_main_v54,
    val_main_v53, val_main_v56, val_main_v55, val_main_call5_v2, val_main_call5_v0, val_main_cst_7]
  simp only [hidden]
  unfold share
  rw [← used_apply N r, ← expert_apply E r, ← zero_const]
  rfl

theorem term3 (r : Fin 24656) (d : Fin 2048) :
    val_main_v78 (F := Ideal) E N X Wg Wu Wd (ix2 r d) = share E N X Wg Wu Wd 3#32 3 r d := by
  pointwise [val_main_v78, val_main_call7_v1, val_main_v66, val_main_v65, val_main_v64, val_main_c_8, val_main_v77, val_main_v76,
    val_main_v74, val_main_v73, val_main_v68, val_main_v67, val_main_call6_v5, val_main_call6_v4, val_main_call6_cst_0,
    val_main_call6_v3, val_main_call6_v2, val_main_call6_cst, val_main_call6_v1, val_main_call6_v0, val_main_v75, val_main_v70,
    val_main_v69, val_main_v72, val_main_v71, val_main_call7_v2, val_main_call7_v0, val_main_cst_9]
  simp only [hidden]
  unfold share
  rw [← used_apply N r, ← expert_apply E r, ← zero_const]
  rfl

theorem term4 (r : Fin 24656) (d : Fin 2048) :
    val_main_v94 (F := Ideal) E N X Wg Wu Wd (ix2 r d) = share E N X Wg Wu Wd 4#32 4 r d := by
  pointwise [val_main_v94, val_main_call9_v1, val_main_v82, val_main_v81, val_main_v80, val_main_c_10, val_main_v93, val_main_v92,
    val_main_v90, val_main_v89, val_main_v84, val_main_v83, val_main_call8_v5, val_main_call8_v4, val_main_call8_cst_0,
    val_main_call8_v3, val_main_call8_v2, val_main_call8_cst, val_main_call8_v1, val_main_call8_v0, val_main_v91, val_main_v86,
    val_main_v85, val_main_v88, val_main_v87, val_main_call9_v2, val_main_call9_v0, val_main_cst_11]
  simp only [hidden]
  unfold share
  rw [← used_apply N r, ← expert_apply E r, ← zero_const]
  rfl

theorem term5 (r : Fin 24656) (d : Fin 2048) :
    val_main_v110 (F := Ideal) E N X Wg Wu Wd (ix2 r d) = share E N X Wg Wu Wd 5#32 5 r d := by
  pointwise [val_main_v110, val_main_call11_v1, val_main_v98, val_main_v97, val_main_v96, val_main_c_12, val_main_v109, val_main_v108,
    val_main_v106, val_main_v105, val_main_v100, val_main_v99, val_main_call10_v5, val_main_call10_v4, val_main_call10_cst_0,
    val_main_call10_v3, val_main_call10_v2, val_main_call10_cst, val_main_call10_v1, val_main_call10_v0, val_main_v107,
    val_main_v102, val_main_v101, val_main_v104, val_main_v103, val_main_call11_v2, val_main_call11_v0, val_main_cst_13]
  simp only [hidden]
  unfold share
  rw [← used_apply N r, ← expert_apply E r, ← zero_const]
  rfl

theorem term6 (r : Fin 24656) (d : Fin 2048) :
    val_main_v126 (F := Ideal) E N X Wg Wu Wd (ix2 r d) = share E N X Wg Wu Wd 6#32 6 r d := by
  pointwise [val_main_v126, val_main_call13_v1, val_main_v114, val_main_v113, val_main_v112, val_main_c_14, val_main_v125, val_main_v124,
    val_main_v122, val_main_v121, val_main_v116, val_main_v115, val_main_call12_v5, val_main_call12_v4, val_main_call12_cst_0,
    val_main_call12_v3, val_main_call12_v2, val_main_call12_cst, val_main_call12_v1, val_main_call12_v0, val_main_v123,
    val_main_v118, val_main_v117, val_main_v120, val_main_v119, val_main_call13_v2, val_main_call13_v0, val_main_cst_15]
  simp only [hidden]
  unfold share
  rw [← used_apply N r, ← expert_apply E r, ← zero_const]
  rfl

theorem term7 (r : Fin 24656) (d : Fin 2048) :
    val_main_v142 (F := Ideal) E N X Wg Wu Wd (ix2 r d) = share E N X Wg Wu Wd 7#32 7 r d := by
  pointwise [val_main_v142, val_main_call15_v1, val_main_v130, val_main_v129, val_main_v128, val_main_c_16, val_main_v141, val_main_v140,
    val_main_v138, val_main_v137, val_main_v132, val_main_v131, val_main_call14_v5, val_main_call14_v4, val_main_call14_cst_0,
    val_main_call14_v3, val_main_call14_v2, val_main_call14_cst, val_main_call14_v1, val_main_call14_v0, val_main_v139,
    val_main_v134, val_main_v133, val_main_v136, val_main_v135, val_main_call15_v2, val_main_call15_v0, val_main_cst_17]
  simp only [hidden]
  unfold share
  rw [← used_apply N r, ← expert_apply E r, ← zero_const]
  rfl

theorem result (hE : ∀ j, (E j).toNat ≤ 7) (r : Fin 24656) (d : Fin 2048) :
    val_main_v143 (F := Ideal) E N X Wg Wu Wd (ix2 r d)
      = entry (E (Idealize.ShloMosaic.ValueIdx.ix1 (itemOf r))) (N (Idealize.ShloMosaic.ValueIdx.ix1 (itemOf r))) (fun k => X (ix2 r k))
          (fun e k f => Wg (ix3 e k f)) (fun e k f => Wu (ix3 e k f)) (fun e f d => Wd (ix3 e f d)) d := by
  pointwise [val_main_v143, val_main_v127, val_main_v111, val_main_v95, val_main_v79, val_main_v63, val_main_v47, val_main_v31,
    val_main_v15, val_main_cst]
  simp only [term0, term1, term2, term3, term4, term5, term6, term7]
  have h7 := hE (Idealize.ShloMosaic.ValueIdx.ix1 (itemOf r))
  unfold share entry
  simp only [IntOp.andi_eq_one, IntOp.cmpi_sgt, IntOp.cmpi_eq]
  rw [show (0#32).toInt = 0 from rfl]
  generalize E (Idealize.ShloMosaic.ValueIdx.ix1 (itemOf r)) = e at h7 ⊢
  by_cases hn : 0 < (N (Idealize.ShloMosaic.ValueIdx.ix1 (itemOf r))).toInt
  · simp only [hn, true_and, if_true]
    have hc : e = 0#32 ∨ e = 1#32 ∨ e = 2#32 ∨ e = 3#32 ∨ e = 4#32 ∨ e = 5#32 ∨ e = 6#32 ∨ e = 7#32 := by
      simp only [← BitVec.toNat_inj, BitVec.toNat_ofNat]; omega
    rcases hc with h | h | h | h | h | h | h | h <;> subst h <;> simp [expert]
  · simp [hn]

end Cert.ExpertsReferenceIdeal.Sum

end
-- ==== Proof.ExpertsIdeal.Kit.lean ====
/- The experts' call, set up: the arrays and tables it finds, the windows' blocks, the memrefs its body is given. -/
module

public import proofs.«01_k».proof.Proof.Gen.ExpertsIdeal.Launch
public import proofs.«01_k».proof.Proof.Gen.ExpertsIdeal.Skeleton
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.ExpertsIdeal.Body

open Cert.ExpertsIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The output is written back at the last tile of an item. -/
theorem flush0_4 (a : (pcfg0 (F := F)).Adm) : ∀ t : Fin (cfg0 a).N, ((cfg0 a).win 4).flush t = true ↔ t.val % 28 = 27 :=
  (fun t => Pipeline.Window.flushOf_reads cc0_transform_4 reads0_4 hreads0_4 0 (by decide) (by decide) (Pipeline.Window.sep_of_coord cc0_transform_4 0 0 (fun _ => rfl) (by decide)) (P := 28) (m := 27) (by decide) rfl t : ∀ t : Fin grid0.N, Pipeline.Window.flushOf grid0 true cc0_transform_4 t = true ↔ t.val % 28 = 27)

/-- The body as the call runs it at point `t`. -/
abbrev bodyAt0 (a : (pcfg0 (F := F)).Adm) (t : Fin (cfg0 a).N) : Prog (TpuEff nD τ sig (Elt F) Λ₀ .tc) PUnit :=
  cc0_moe_experts (grid0.coords t) (Memref.whole main_arg0) (Memref.isWhole_whole _) (Memref.whole main_arg1) (Memref.isWhole_whole _) (spec0_0.stage ((cfg0 a).slots t 0)) (hstage0_0 (((cfg0 a).slots t 0).cast nbuf0_0)) (spec0_1.stage ((cfg0 a).slots t 1)) (hstage0_1 (((cfg0 a).slots t 1).cast nbuf0_1)) (spec0_2.stage ((cfg0 a).slots t 2)) (hstage0_2 (((cfg0 a).slots t 2).cast nbuf0_2)) (spec0_3.stage ((cfg0 a).slots t 3)) (hstage0_3 (((cfg0 a).slots t 3).cast nbuf0_3)) (spec0_4.stage ((cfg0 a).slots t 4)) (hstage0_4 (((cfg0 a).slots t 4).cast nbuf0_4)) (Memref.whole cc0_scratch0) (Memref.isWhole_whole _)

/-- The buffers as the call finds them: the launch memory. -/
abbrev V (c : Dev nD) (b : Ref sig .tc) : Buf (Elt F) ((c : Thread nD τ).loc b) := m ((c : Thread nD τ).loc b)

set_option maxHeartbeats 800000 in
/-- `main` is the call alone. -/
theorem hmain (𝒱₀ : Variants) : Pipeline.HMainP (Ix := Unit) (Name := ℕ) (U := UR sig nD τ) (Lvl := ℕ) pcfgs 0 defs₀ 𝒱₀ m (main (F := F)) (V m) :=
  Pipeline.hmainP_region pcfgs 0 defs₀ 𝒱₀ m main fun c => (main_chain c).trans rfl

theorem V_main_arg0 (c : Dev nD) : V m c main_arg0 = m ((c : Thread nD τ).loc main_arg0) := rfl
theorem V_main_arg1 (c : Dev nD) : V m c main_arg1 = m ((c : Thread nD τ).loc main_arg1) := rfl
theorem V_main_arg2 (c : Dev nD) : V m c main_arg2 = m ((c : Thread nD τ).loc main_arg2) := rfl
theorem V_main_arg3 (c : Dev nD) : V m c main_arg3 = m ((c : Thread nD τ).loc main_arg3) := rfl
theorem V_main_arg4 (c : Dev nD) : V m c main_arg4 = m ((c : Thread nD τ).loc main_arg4) := rfl
theorem V_main_arg5 (c : Dev nD) : V m c main_arg5 = m ((c : Thread nD τ).loc main_arg5) := rfl

/-- The two tables (the item's expert, its count of rows) as the call finds them. -/
def tbl : pre0.Contents (Elt F) := fun j => V m (0 : Dev nD) (pre0.ref j)
theorem V_pre (c : Dev nD) (j : Fin 2) : V m c (pre0.ref j) = tbl m j := by
  obtain rfl : c = 0 := Subsingleton.elim _ _; rfl
/-- Every block the tables choose lies inside its array. -/
abbrev Ok : Prop := ok0 (F := F) (tbl m)
abbrev adm (hO : Ok m) : (pcfg0 (F := F)).Adm := ⟨tbl m, hO⟩
abbrev cfgM (hO : Ok m) : Pipeline.Cfg sig Λ₀ := cfg0 (adm m hO)

abbrev tbM0_0 : Memref sig .tc .smem S23 .i32 := Memref.whole main_arg0
abbrev htbM0_0 : tbM0_0.IsWhole := Memref.isWhole_whole _
abbrev tbM0_1 : Memref sig .tc .smem S23 .i32 := Memref.whole main_arg1
abbrev htbM0_1 : tbM0_1.IsWhole := Memref.isWhole_whole _

/-- A table's contents on a core, and the half of it the body is lent. -/
abbrev TbBuf0 (c : Dev nD) {S : Shape} {e : EltTy} (M : Memref sig .tc .smem S e) : Type := Buf (Elt F) (M.view.loc (c : Thread nD τ))
abbrev tbPt0 (c : Dev nD) {S : Shape} {e : EltTy} (M : Memref sig .tc .smem S e) (f : TbBuf0 (F := F) c M) : sProp 𝕄 :=
  M.view.loc (c : Thread nD τ) ↦{fullShare.right} f

/-- The halves of the tables the body is lent. -/
theorem PhiT0_eq (c : Dev nD) : (Pipeline.ΦT pre0 (tbl m) c : sProp 𝕄) = iprop(tbPt0 c tbM0_0 (tbl m 0) ∗ tbPt0 c tbM0_1 (tbl m 1)) := by
  unfold Pipeline.ΦT Pipeline.prefHeld
  rw [show (Finset.univ : Finset (Fin 2)) = insert (0 : Fin 2) {(1 : Fin 2)} from by decide,
    bigSep_insert (by decide), bigSep_singleton]
  rfl

/-- Input window `w`'s block at point `t`. -/
def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

/-! Each input's staging buffer holds its block at every point. -/

theorem before0_0_of (hO : Ok m) {c : Dev nD} (dat : Dat τ (Elt F) Unit ℕ (UR sig nD τ) ℕ (cfgM m hO) c) (hA : dat.A 0 = V m c (Pipeline.arrRef spec0 0))
    (hafter : ∀ t, dat.after 0 t = iblk m hO c 0 t) (t : Fin (cfgM m hO).N) (d) : dat.before 0 t d = iblk m hO c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of (hO : Ok m) {c : Dev nD} (dat : Dat τ (Elt F) Unit ℕ (UR sig nD τ) ℕ (cfgM m hO) c) (hA : dat.A 1 = V m c (Pipeline.arrRef spec0 1))
    (hafter : ∀ t, dat.after 1 t = iblk m hO c 1 t) (t : Fin (cfgM m hO).N) (d) : dat.before 1 t d = iblk m hO c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of (hO : Ok m) {c : Dev nD} (dat : Dat τ (Elt F) Unit ℕ (UR sig nD τ) ℕ (cfgM m hO) c) (hA : dat.A 2 = V m c (Pipeline.arrRef spec0 2))
    (hafter : ∀ t, dat.after 2 t = iblk m hO c 2 t) (t : Fin (cfgM m hO).N) (d) : dat.before 2 t d = iblk m hO c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of (hO : Ok m) {c : Dev nD} (dat : Dat τ (Elt F) Unit ℕ (UR sig nD τ) ℕ (cfgM m hO) c) (hA : dat.A 3 = V m c (Pipeline.arrRef spec0 3))
    (hafter : ∀ t, dat.after 3 t = iblk m hO c 3 t) (t : Fin (cfgM m hO).N) (d) : dat.before 3 t d = iblk m hO c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-- The frame, from a run that ends with every staged array at what the proof data says. -/
theorem frame_of (hO : Ok m) (dats : (p : Fin 1) → (c : Dev nD) → Dat τ (Elt F) Unit ℕ (UR sig nD τ) ℕ ((Pipeline.pin pcfgs fun _ => adm m hO) p) c)
    (hA : ∀ c w, (dats 0 c).A w = V m c (Pipeline.arrRef spec0 w))
    (h : θ_run defs (onTc (τ := τ) (main (F := F))) (s₀ m ρ) (Pipeline.FramePost (Pipeline.pin pcfgs fun _ => adm m hO) dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨((h c).2 main_arg0 (by decide : main_arg0 ∈ Pipeline.restRefs sig spec0)).trans (V_main_arg0 m c),
      ((h c).2 main_arg1 (by decide : main_arg1 ∈ Pipeline.restRefs sig spec0)).trans (V_main_arg1 m c),
      ((h c).1 0).trans (((dats 0 c).arrAt_in 0 rfl _).trans ((hA c 0).trans (V_main_arg2 m c))),
      ((h c).1 1).trans (((dats 0 c).arrAt_in 1 rfl _).trans ((hA c 1).trans (V_main_arg3 m c))),
      ((h c).1 2).trans (((dats 0 c).arrAt_in 2 rfl _).trans ((hA c 2).trans (V_main_arg4 m c))),
      ((h c).1 3).trans (((dats 0 c).arrAt_in 3 rfl _).trans ((hA c 3).trans (V_main_arg5 m c)))⟩) h

/-- The first tile of an item. -/
abbrev cond0_0 (i : grid0.Coords) : Prop := (Scalar.cmpi .ne (Scalar.extui (Scalar.cmpi .eq (BitVec.ofNat 32 (i 1).val) 0#32)) 0#32) = 1#1
/-- It is the points that are 0 modulo 28. -/
theorem hcond0_0 : ∀ t : Fin grid0.N, cond0_0 (grid0.coords t) ↔ t.val % 28 = 0 :=
  (fun t => by
    have ht : t.val < 644 := Nat.lt_of_lt_of_eq t.isLt N_0
    have e0 : (grid0.coords t 0).val = t.val / 28 % 23 := Pipeline.Grid.coords_val t 0 (by decide) rfl
    have e1 : (grid0.coords t 1).val = t.val / 1 % 28 := Pipeline.Grid.coords_val t 1 (by decide) rfl
    simp only [cond0_0, e0, e1]
    word_cmp
   : ∀ t : Fin grid0.N, cond0_0 (grid0.coords t) ↔ t.val % 28 = 0)

/-- The staging buffer through which the output's contents are stated. -/
abbrev VO0_4 : View sig .tc .vmem S1072x2048 .f32 := (Memref.whole cc0_stg4_0 : Memref sig .tc .vmem S1072x2048 .f32).view
/-! The staging memrefs at a point, and the scratch. -/

abbrev ms0_0 (hO : Ok m) (t : Fin (cfgM m hO).N) : Memref sig .tc .vmem S1072x1024 .i32 := spec0_0.stage ((cfgM m hO).slots t 0)
abbrev hs0_0 (hO : Ok m) (t : Fin (cfgM m hO).N) : (ms0_0 m hO t).IsWhole := hstage0_0 (((cfgM m hO).slots t 0).cast nbuf0_0)
abbrev ms0_1 (hO : Ok m) (t : Fin (cfgM m hO).N) : Memref sig .tc .vmem S1x2048x256 .f32 := spec0_1.stage ((cfgM m hO).slots t 1)
abbrev hs0_1 (hO : Ok m) (t : Fin (cfgM m hO).N) : (ms0_1 m hO t).IsWhole := hstage0_1 (((cfgM m hO).slots t 1).cast nbuf0_1)
abbrev ms0_2 (hO : Ok m) (t : Fin (cfgM m hO).N) : Memref sig .tc .vmem S1x2048x256 .f32 := spec0_2.stage ((cfgM m hO).slots t 2)
abbrev hs0_2 (hO : Ok m) (t : Fin (cfgM m hO).N) : (ms0_2 m hO t).IsWhole := hstage0_2 (((cfgM m hO).slots t 2).cast nbuf0_2)
abbrev ms0_3 (hO : Ok m) (t : Fin (cfgM m hO).N) : Memref sig .tc .vmem S1x256x2048 .f32 := spec0_3.stage ((cfgM m hO).slots t 3)
abbrev hs0_3 (hO : Ok m) (t : Fin (cfgM m hO).N) : (ms0_3 m hO t).IsWhole := hstage0_3 (((cfgM m hO).slots t 3).cast nbuf0_3)
abbrev ms0_4 (hO : Ok m) (t : Fin (cfgM m hO).N) : Memref sig .tc .vmem S1072x2048 .f32 := spec0_4.stage ((cfgM m hO).slots t 4)
abbrev hs0_4 (hO : Ok m) (t : Fin (cfgM m hO).N) : (ms0_4 m hO t).IsWhole := hstage0_4 (((cfgM m hO).slots t 4).cast nbuf0_4)
abbrev scM0_0 : Memref sig .tc .vmem S1072x2048 .bf16 := Memref.whole cc0_scratch0
abbrev VS0_0 : View sig .tc .vmem S1072x2048 .bf16 := scM0_0.view

/-- What the body is lent beside the windows: the scratch at some contents, and the generator register. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

end Cert.ExpertsIdeal.Body

end
-- ==== Proof.ExpertsIdeal.Runs.lean ====
/- The experts' body, run in each of its four cases: the first tile of an item or a later one, of an item with rows or without. -/
module

public import proofs.«01_k».proof.Proof.ExpertsIdeal.Kit

@[expose] public section

set_option maxRecDepth 16384

noncomputable section

namespace Cert.ExpertsIdeal.Body

open Cert.ExpertsIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The item's count of rows, as the body reads it. -/
abbrev count (i : grid0.Coords) (c : Dev nD) (xt1 : TbBuf0 (F := F) c tbM0_1) : BitVec 32 :=
  tbM0_1.view.readAt (Elt F) (Rect.unit (s := S23) (k0_off1 i) S1.size (k0_off1_inb i)).toLoadRect xt1
    (Shape.Idx.first (by show 0 < S1.numel; rw [numel1_S1]; exact Nat.one_pos))

/-- The item has rows. -/
abbrev live (i : grid0.Coords) (c : Dev nD) (xt1 : TbBuf0 (F := F) c tbM0_1) : Prop := k0_cond2 (count i c xt1) = 1#1

set_option maxHeartbeats 1000000 in
/-- The first tile of an item that has rows: zeros, then the tile's product, and the item's rows unpacked into the scratch. -/
noncomputable def runA (c : Dev nD) (i : grid0.Coords) (arg4 : Memref sig .tc .vmem S1072x1024 .i32) (harg4 : arg4.IsWhole) (arg5 : Memref sig .tc .vmem S1x2048x256 .f32) (harg5 : arg5.IsWhole) (arg6 : Memref sig .tc .vmem S1x2048x256 .f32) (harg6 : arg6.IsWhole) (arg7 : Memref sig .tc .vmem S1x256x2048 .f32) (harg7 : arg7.IsWhole)
    (arg8 : Memref sig .tc .vmem S1072x2048 .f32) (harg8 : arg8.IsWhole) (arg9 : Memref sig .tc .vmem S1072x2048 .bf16) (harg9 : arg9.IsWhole)
    (x0 : Vec F S1072x1024 .i32) (x1 : Vec F S1x2048x256 .f32) (x2 : Vec F S1x2048x256 .f32) (x3 : Vec F S1x256x2048 .f32) (xt0 : TbBuf0 (F := F) c tbM0_0) (xt1 : TbBuf0 (F := F) c tbM0_1)
    (hc0 : cond0_0 i) (hv : live i c xt1) :
    Σ' (L4 : List (View.Piece (Elt F) S1072x2048 .f32)), { LS0 : List (View.Piece (Elt F) S1072x2048 .bf16) //
      ∀ (E : Set ℕ) (K : PUnit → sProp 𝕄),
        iprop(owns (c : Thread nD τ) arg4 fullShare x0 ∗ owns (c : Thread nD τ) arg5 fullShare x1 ∗ owns (c : Thread nD τ) arg6 fullShare x2 ∗ owns (c : Thread nD τ) arg7 fullShare x3 ∗ (∃ d, owns (c : Thread nD τ) arg8 fullShare d) ∗ (∃ d, owns (c : Thread nD τ) arg9 fullShare d) ∗ tbPt0 c tbM0_0 xt0 ∗ tbPt0 c tbM0_1 xt1
            ∗ (iprop(owns (c : Thread nD τ) arg4 fullShare x0 ∗ owns (c : Thread nD τ) arg5 fullShare x1 ∗ owns (c : Thread nD τ) arg6 fullShare x2 ∗ owns (c : Thread nD τ) arg7 fullShare x3 ∗ (∃ f, arg8.view.loc (c : Thread nD τ) ↦[arg8.view.set]{fullShare} arg8.view.writes (Elt F) f L4) ∗ (∃ f, arg9.view.loc (c : Thread nD τ) ↦[arg9.view.set]{fullShare} arg9.view.writes (Elt F) f LS0) ∗ tbPt0 c tbM0_0 xt0 ∗ tbPt0 c tbM0_1 xt1) -∗ K ⟨⟩))
          ⊢ wp frame (wpE (defs₀ (F := F)) Variants.none c none) E (cc0_moe_experts i tbM0_0 htbM0_0 tbM0_1 htbM0_1 arg4 harg4 arg5 harg5 arg6 harg6 arg7 harg7 arg8 harg8 arg9 harg9) K } := by
  refine ⟨?_, ?_, fun E K => ?run⟩
  case run =>
    simp only [cc0_moe_experts_eq_skeleton]; unfold cc0_moe_experts_skel
    unfold owns
    iintro ⟨⟨%f0, %hf0, H0⟩, ⟨%f1, %hf1, H1⟩, ⟨%f2, %hf2, H2⟩, ⟨%f3, %hf3, H3⟩, ⟨%d4, %f4, -, H4⟩, ⟨%ds0, %fs0, -, HS0⟩, HT0, HT1, Hk⟩
    obtain rfl := harg4.eq_unread hf0; obtain rfl := harg5.eq_unread hf1; obtain rfl := harg6.eq_unread hf2; obtain rfl := harg7.eq_unread hf3
    sl_exec (disch := first | sl_exact hc0 | sl_exact hv)
    sl_step
    iapply Hk
    isplitl [H0]
    · iexists _; isplitr; · ipureintro; exact harg4.read_unread _
      iexact H0
    isplitl [H1]
    · iexists _; isplitr; · ipureintro; exact harg5.read_unread _
      iexact H1
    isplitl [H2]
    · iexists _; isplitr; · ipureintro; exact harg6.read_unread _
      iexact H2
    isplitl [H3]
    · iexists _; isplitr; · ipureintro; exact harg7.read_unread _
      iexact H3
    isplitl [H4]; · iexists _; iexact H4
    isplitl [HS0]; · iexists _; iexact HS0
    isplitl [HT0]; · iexact HT0
    iexact HT1

set_option maxHeartbeats 1000000 in
/-- A later tile of an item that has rows: the tile's product is added. -/
noncomputable def runB (c : Dev nD) (i : grid0.Coords) (arg4 : Memref sig .tc .vmem S1072x1024 .i32) (harg4 : arg4.IsWhole) (arg5 : Memref sig .tc .vmem S1x2048x256 .f32) (harg5 : arg5.IsWhole) (arg6 : Memref sig .tc .vmem S1x2048x256 .f32) (harg6 : arg6.IsWhole) (arg7 : Memref sig .tc .vmem S1x256x2048 .f32) (harg7 : arg7.IsWhole)
    (arg8 : Memref sig .tc .vmem S1072x2048 .f32) (harg8 : arg8.IsWhole) (arg9 : Memref sig .tc .vmem S1072x2048 .bf16) (harg9 : arg9.IsWhole)
    (x0 : Vec F S1072x1024 .i32) (x1 : Vec F S1x2048x256 .f32) (x2 : Vec F S1x2048x256 .f32) (x3 : Vec F S1x256x2048 .f32) (xt0 : TbBuf0 (F := F) c tbM0_0) (xt1 : TbBuf0 (F := F) c tbM0_1)
    (hc0 : ¬cond0_0 i) (hv : live i c xt1) (xo4 : Vec F S1072x2048 .f32) (xs0 : Vec F S1072x2048 .bf16) :
    { L4 : List (View.Piece (Elt F) S1072x2048 .f32) //
      ∀ (E : Set ℕ) (K : PUnit → sProp 𝕄),
        iprop(owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare xo4 ∗ owns (c : Thread nD τ) arg9 fullShare xs0 ∗ tbPt0 c tbM0_0 xt0 ∗ tbPt0 c tbM0_1 xt1
            ∗ (iprop(owns (c : Thread nD τ) arg4 fullShare x0 ∗ owns (c : Thread nD τ) arg5 fullShare x1 ∗ owns (c : Thread nD τ) arg6 fullShare x2 ∗ owns (c : Thread nD τ) arg7 fullShare x3 ∗ (∃ f, arg8.view.loc (c : Thread nD τ) ↦[arg8.view.set]{fullShare} arg8.view.writes (Elt F) f L4) ∗ owns (c : Thread nD τ) arg9 fullShare xs0 ∗ tbPt0 c tbM0_0 xt0 ∗ tbPt0 c tbM0_1 xt1) -∗ K ⟨⟩))
          ⊢ wp frame (wpE (defs₀ (F := F)) Variants.none c none) E (cc0_moe_experts i tbM0_0 htbM0_0 tbM0_1 htbM0_1 arg4 harg4 arg5 harg5 arg6 harg6 arg7 harg7 arg8 harg8 arg9 harg9) K } := by
  refine ⟨?_, fun E K => ?run⟩
  case run =>
    simp only [cc0_moe_experts_eq_skeleton]; unfold cc0_moe_experts_skel
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, HT0, HT1, Hk⟩
    obtain rfl := harg4.eq_unread hf0; obtain rfl := harg5.eq_unread hf1; obtain rfl := harg6.eq_unread hf2; obtain rfl := harg7.eq_unread hf3; obtain rfl := harg8.eq_unread hf4; obtain rfl := harg9.eq_unread hfs0
    sl_exec (disch := first | sl_exact hc0 | sl_exact hv)
    sl_step
    iapply Hk
    isplitl [H0]
    · iexists _; isplitr; · ipureintro; exact harg4.read_unread _
      iexact H0
    isplitl [H1]
    · iexists _; isplitr; · ipureintro; exact harg5.read_unread _
      iexact H1
    isplitl [H2]
    · iexists _; isplitr; · ipureintro; exact harg6.read_unread _
      iexact H2
    isplitl [H3]
    · iexists _; isplitr; · ipureintro; exact harg7.read_unread _
      iexact H3
    isplitl [H4]; · iexists _; iexact H4
    isplitl [HS0]
    · iexists _; isplitr; · ipureintro; exact harg9.read_unread _
      iexact HS0
    isplitl [HT0]; · iexact HT0
    iexact HT1

set_option maxHeartbeats 1000000 in
/-- The first tile of an item without rows: zeros. -/
noncomputable def runZ (c : Dev nD) (i : grid0.Coords) (arg4 : Memref sig .tc .vmem S1072x1024 .i32) (harg4 : arg4.IsWhole) (arg5 : Memref sig .tc .vmem S1x2048x256 .f32) (harg5 : arg5.IsWhole) (arg6 : Memref sig .tc .vmem S1x2048x256 .f32) (harg6 : arg6.IsWhole) (arg7 : Memref sig .tc .vmem S1x256x2048 .f32) (harg7 : arg7.IsWhole)
    (arg8 : Memref sig .tc .vmem S1072x2048 .f32) (harg8 : arg8.IsWhole) (arg9 : Memref sig .tc .vmem S1072x2048 .bf16) (harg9 : arg9.IsWhole)
    (x0 : Vec F S1072x1024 .i32) (x1 : Vec F S1x2048x256 .f32) (x2 : Vec F S1x2048x256 .f32) (x3 : Vec F S1x256x2048 .f32) (xt0 : TbBuf0 (F := F) c tbM0_0) (xt1 : TbBuf0 (F := F) c tbM0_1)
    (hc0 : cond0_0 i) (hv : ¬live i c xt1)  :
    { L4 : List (View.Piece (Elt F) S1072x2048 .f32) //
      ∀ (E : Set ℕ) (K : PUnit → sProp 𝕄),
        iprop(owns (c : Thread nD τ) arg4 fullShare x0 ∗ owns (c : Thread nD τ) arg5 fullShare x1 ∗ owns (c : Thread nD τ) arg6 fullShare x2 ∗ owns (c : Thread nD τ) arg7 fullShare x3 ∗ (∃ d, owns (c : Thread nD τ) arg8 fullShare d) ∗ (∃ d, owns (c : Thread nD τ) arg9 fullShare d) ∗ tbPt0 c tbM0_0 xt0 ∗ tbPt0 c tbM0_1 xt1
            ∗ (iprop(owns (c : Thread nD τ) arg4 fullShare x0 ∗ owns (c : Thread nD τ) arg5 fullShare x1 ∗ owns (c : Thread nD τ) arg6 fullShare x2 ∗ owns (c : Thread nD τ) arg7 fullShare x3 ∗ (∃ f, arg8.view.loc (c : Thread nD τ) ↦[arg8.view.set]{fullShare} arg8.view.writes (Elt F) f L4) ∗ (∃ d, owns (c : Thread nD τ) arg9 fullShare d) ∗ tbPt0 c tbM0_0 xt0 ∗ tbPt0 c tbM0_1 xt1) -∗ K ⟨⟩))
          ⊢ wp frame (wpE (defs₀ (F := F)) Variants.none c none) E (cc0_moe_experts i tbM0_0 htbM0_0 tbM0_1 htbM0_1 arg4 harg4 arg5 harg5 arg6 harg6 arg7 harg7 arg8 harg8 arg9 harg9) K } := by
  refine ⟨?_, fun E K => ?run⟩
  case run =>
    simp only [cc0_moe_experts_eq_skeleton]; unfold cc0_moe_experts_skel
    unfold owns
    iintro ⟨⟨%f0, %hf0, H0⟩, ⟨%f1, %hf1, H1⟩, ⟨%f2, %hf2, H2⟩, ⟨%f3, %hf3, H3⟩, ⟨%d4, %f4, -, H4⟩, ⟨%ds0, %fs0, %hfs0, HS0⟩, HT0, HT1, Hk⟩
    obtain rfl := harg4.eq_unread hf0; obtain rfl := harg5.eq_unread hf1; obtain rfl := harg6.eq_unread hf2; obtain rfl := harg7.eq_unread hf3; obtain rfl := harg9.eq_unread hfs0
    sl_exec (disch := first | sl_exact hc0 | sl_exact hv)
    sl_step
    iapply Hk
    isplitl [H0]
    · iexists _; isplitr; · ipureintro; exact harg4.read_unread _
      iexact H0
    isplitl [H1]
    · iexists _; isplitr; · ipureintro; exact harg5.read_unread _
      iexact H1
    isplitl [H2]
    · iexists _; isplitr; · ipureintro; exact harg6.read_unread _
      iexact H2
    isplitl [H3]
    · iexists _; isplitr; · ipureintro; exact harg7.read_unread _
      iexact H3
    isplitl [H4]; · iexists _; iexact H4
    isplitl [HS0]
    · iexists ds0; iexists _; isplitr; · ipureintro; exact harg9.read_unread _
      iexact HS0
    isplitl [HT0]; · iexact HT0
    iexact HT1

set_option maxHeartbeats 1000000 in
/-- A later tile of an item without rows: nothing is stored. -/
theorem runN (c : Dev nD) (i : grid0.Coords) (arg4 : Memref sig .tc .vmem S1072x1024 .i32) (harg4 : arg4.IsWhole) (arg5 : Memref sig .tc .vmem S1x2048x256 .f32) (harg5 : arg5.IsWhole) (arg6 : Memref sig .tc .vmem S1x2048x256 .f32) (harg6 : arg6.IsWhole) (arg7 : Memref sig .tc .vmem S1x256x2048 .f32) (harg7 : arg7.IsWhole)
    (arg8 : Memref sig .tc .vmem S1072x2048 .f32) (harg8 : arg8.IsWhole) (arg9 : Memref sig .tc .vmem S1072x2048 .bf16) (harg9 : arg9.IsWhole)
    (x0 : Vec F S1072x1024 .i32) (x1 : Vec F S1x2048x256 .f32) (x2 : Vec F S1x2048x256 .f32) (x3 : Vec F S1x256x2048 .f32) (xt0 : TbBuf0 (F := F) c tbM0_0) (xt1 : TbBuf0 (F := F) c tbM0_1)
    (hc0 : ¬cond0_0 i) (hv : ¬live i c xt1) (xo4 : Vec F S1072x2048 .f32) (xs0 : Vec F S1072x2048 .bf16) :

      ∀ (E : Set ℕ) (K : PUnit → sProp 𝕄),
        iprop(owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare xo4 ∗ owns (c : Thread nD τ) arg9 fullShare xs0 ∗ tbPt0 c tbM0_0 xt0 ∗ tbPt0 c tbM0_1 xt1
            ∗ (iprop(owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare xo4 ∗ owns (c : Thread nD τ) arg9 fullShare xs0 ∗ tbPt0 c tbM0_0 xt0 ∗ tbPt0 c tbM0_1 xt1) -∗ K ⟨⟩))
          ⊢ wp frame (wpE (defs₀ (F := F)) Variants.none c none) E (cc0_moe_experts i tbM0_0 htbM0_0 tbM0_1 htbM0_1 arg4 harg4 arg5 harg5 arg6 harg6 arg7 harg7 arg8 harg8 arg9 harg9) K := by
  intro E K
  simp only [cc0_moe_experts_eq_skeleton]; unfold cc0_moe_experts_skel
  unfold owns
  iintro ⟨⟨%f0, %hf0, H0⟩, ⟨%f1, %hf1, H1⟩, ⟨%f2, %hf2, H2⟩, ⟨%f3, %hf3, H3⟩, ⟨%f4, %hf4, H4⟩, ⟨%fs0, %hfs0, HS0⟩, HT0, HT1, Hk⟩
  obtain rfl := harg4.eq_unread hf0; obtain rfl := harg5.eq_unread hf1; obtain rfl := harg6.eq_unread hf2; obtain rfl := harg7.eq_unread hf3; obtain rfl := harg8.eq_unread hf4; obtain rfl := harg9.eq_unread hfs0
  sl_exec (disch := first | sl_exact hc0 | sl_exact hv)
  sl_step
  iapply Hk
  isplitl [H0]
  · iexists _; isplitr; · ipureintro; exact harg4.read_unread _
    iexact H0
  isplitl [H1]
  · iexists _; isplitr; · ipureintro; exact harg5.read_unread _
    iexact H1
  isplitl [H2]
  · iexists _; isplitr; · ipureintro; exact harg6.read_unread _
    iexact H2
  isplitl [H3]
  · iexists _; isplitr; · ipureintro; exact harg7.read_unread _
    iexact H3
  isplitl [H4]
  · iexists _; isplitr; · ipureintro; exact harg8.read_unread _
    iexact H4
  isplitl [HS0]
  · iexists _; isplitr; · ipureintro; exact harg9.read_unread _
    iexact HS0
  isplitl [HT0]; · iexact HT0
  iexact HT1

end Cert.ExpertsIdeal.Body

end
-- ==== Proof.ExpertsIdeal.State.lean ====
/- The experts' call runs: what the output and the scratch hold after every point, point by point. -/
module

public import proofs.«01_k».proof.Proof.ExpertsIdeal.Runs
public import Idealize.ShloMosaic.Lib.Pipeline.TableIdle
public import Idealize.ShloMosaic.Lib.ValueIdxCore

@[expose] public section

set_option maxRecDepth 16384

noncomputable section

namespace Cert.ExpertsIdeal.Body

open Cert.ExpertsIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The item of point `t` has rows. -/
abbrev liveAt (hO : Ok m) (c : Dev nD) (t : Fin (cfgM m hO).N) : Prop := live (grid0.coords t) c (tbl m 1)

/-- The word the body reads at a point is its item's. -/
theorem count_eq (hO : Ok m) (c : Dev nD) (t : Fin (cfgM m hO).N) (j : Fin 23) (hj : j.val = t.val / 28) :
    count (grid0.coords t) c (tbl m 1) = m ((c : Thread nD τ).loc main_arg1) (Idealize.ShloMosaic.ValueIdx.ix1 j : S23.Idx) := by
  have ht : t.val < 644 := Nat.lt_of_lt_of_eq t.isLt N_0
  have e0 : (grid0.coords t 0).val = t.val / 28 % 23 := Pipeline.Grid.coords_val (G := grid0) t 0 (by decide) rfl
  obtain rfl : c = 0 := Subsingleton.elim _ _
  unfold count
  refine (View.readAt_apply ..).trans ?_
  show m (((0 : Dev nD) : Thread nD τ).loc main_arg1) _ = _
  congr 1
  funext a
  apply Fin.ext
  fin_cases a
  refine (show k0_off1 (grid0.coords t) 0 + 1 * 0 = j.val from ?_)
  rw [congrFun (k0_off1_eq (grid0.coords t)) 0]
  show (grid0.coords t 0).val = j.val
  rw [e0, hj]
  exact Nat.mod_eq_of_lt (by omega)

/-- Within an item the word does not change. -/
theorem live_pred (hO : Ok m) (c : Dev nD) (t : Fin (cfgM m hO).N) (hz : t.val ≠ 0) (h0 : ¬t.val % 28 = 0) :
    liveAt m hO c t ↔ liveAt m hO c ⟨t.val - 1, Nat.lt_of_le_of_lt (Nat.sub_le _ _) t.isLt⟩ := by
  have ht : t.val < 644 := Nat.lt_of_lt_of_eq t.isLt N_0
  have hj : t.val / 28 < 23 := by omega
  unfold liveAt live
  rw [count_eq m hO c t ⟨t.val / 28, hj⟩ rfl,
    count_eq m hO c ⟨t.val - 1, Nat.lt_of_le_of_lt (Nat.sub_le _ _) t.isLt⟩ ⟨t.val / 28, hj⟩ (by show t.val / 28 = (t.val - 1) / 28; omega)]

/-! The four cases' runs at point `t`. -/

abbrev runAtA (hO : Ok m) (c : Dev nD) (t : Fin (cfgM m hO).N) (h0 : t.val % 28 = 0) (hv : liveAt m hO c t) :=
  runA c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) scM0_0 (Memref.isWhole_whole _) (iblk m hO c 0 t) (iblk m hO c 1 t) (iblk m hO c 2 t) (iblk m hO c 3 t) (tbl m 0) (tbl m 1) ((hcond0_0 t).mpr h0) hv
abbrev runAtB (hO : Ok m) (c : Dev nD) (t : Fin (cfgM m hO).N) (h0 : ¬t.val % 28 = 0) (hv : liveAt m hO c t) (xo : Vec F S1072x2048 .f32) (xs : Vec F S1072x2048 .bf16) :=
  runB c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) scM0_0 (Memref.isWhole_whole _) (iblk m hO c 0 t) (iblk m hO c 1 t) (iblk m hO c 2 t) (iblk m hO c 3 t) (tbl m 0) (tbl m 1) (fun h => h0 ((hcond0_0 t).mp h)) hv xo xs
abbrev runAtZ (hO : Ok m) (c : Dev nD) (t : Fin (cfgM m hO).N) (h0 : t.val % 28 = 0) (hv : ¬liveAt m hO c t) :=
  runZ c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) scM0_0 (Memref.isWhole_whole _) (iblk m hO c 0 t) (iblk m hO c 1 t) (iblk m hO c 2 t) (iblk m hO c 3 t) (tbl m 0) (tbl m 1) ((hcond0_0 t).mpr h0) hv

theorem coverA (hO : Ok m) (c : Dev nD) (t : Fin (cfgM m hO).N) (h0 : t.val % 28 = 0) (hv : liveAt m hO c t) (y : S1072x2048.Idx) :
    ∃ pc ∈ (runAtA m hO c t h0 hv).1, y ∈ pc.1.set :=
  View.cover_of_tiledL (runAtA m hO c t h0 hv).1 S1072x2048.size (by sl_kernel_rfl) y
theorem scoverA (hO : Ok m) (c : Dev nD) (t : Fin (cfgM m hO).N) (h0 : t.val % 28 = 0) (hv : liveAt m hO c t) (y : S1072x2048.Idx) :
    ∃ pc ∈ (runAtA m hO c t h0 hv).2.1, y ∈ pc.1.set :=
  View.cover_of_tiledL (runAtA m hO c t h0 hv).2.1 S1072x1024.size (by sl_kernel_rfl) y
theorem coverB (hO : Ok m) (c : Dev nD) (t : Fin (cfgM m hO).N) (h0 : ¬t.val % 28 = 0) (hv : liveAt m hO c t) (xo : Vec F S1072x2048 .f32) (xs : Vec F S1072x2048 .bf16) (y : S1072x2048.Idx) :
    ∃ pc ∈ (runAtB m hO c t h0 hv xo xs).1, y ∈ pc.1.set :=
  View.cover_of_tiledL (runAtB m hO c t h0 hv xo xs).1 S1072x2048.size (by sl_kernel_rfl) y
theorem coverZ (hO : Ok m) (c : Dev nD) (t : Fin (cfgM m hO).N) (h0 : t.val % 28 = 0) (hv : ¬liveAt m hO c t) (y : S1072x2048.Idx) :
    ∃ pc ∈ (runAtZ m hO c t h0 hv).1, y ∈ pc.1.set :=
  View.cover_of_tiledL (runAtZ m hO c t h0 hv).1 S1072x2048.size (by sl_kernel_rfl) y

/-! What each leaves in the output's staging buffer, and in the scratch. -/

def outA (hO : Ok m) (c : Dev nD) (t : Fin (cfgM m hO).N) (h0 : t.val % 28 = 0) (hv : liveAt m hO c t) : Vec F S1072x2048 .f32 :=
  VO0_4.read (Elt F) (VO0_4.writes (Elt F) VO0_4.junk (runAtA m hO c t h0 hv).1)
def soutA (hO : Ok m) (c : Dev nD) (t : Fin (cfgM m hO).N) (h0 : t.val % 28 = 0) (hv : liveAt m hO c t) : Vec F S1072x2048 .bf16 :=
  VS0_0.read (Elt F) (VS0_0.writes (Elt F) VS0_0.junk (runAtA m hO c t h0 hv).2.1)
def outB (hO : Ok m) (c : Dev nD) (t : Fin (cfgM m hO).N) (h0 : ¬t.val % 28 = 0) (hv : liveAt m hO c t) (xo : Vec F S1072x2048 .f32) (xs : Vec F S1072x2048 .bf16) : Vec F S1072x2048 .f32 :=
  VO0_4.read (Elt F) (VO0_4.writes (Elt F) VO0_4.junk (runAtB m hO c t h0 hv xo xs).1)
def outZ (hO : Ok m) (c : Dev nD) (t : Fin (cfgM m hO).N) (h0 : t.val % 28 = 0) (hv : ¬liveAt m hO c t) : Vec F S1072x2048 .f32 :=
  VO0_4.read (Elt F) (VO0_4.writes (Elt F) VO0_4.junk (runAtZ m hO c t h0 hv).1)

/-- One point: the output's and the scratch's contents from those of the point before. -/
def next (hO : Ok m) (c : Dev nD) (t : Fin (cfgM m hO).N) (s : Vec F S1072x2048 .f32 × Vec F S1072x2048 .bf16) : Vec F S1072x2048 .f32 × Vec F S1072x2048 .bf16 :=
  if h0 : t.val % 28 = 0 then
    if hv : liveAt m hO c t then (outA m hO c t h0 hv, soutA m hO c t h0 hv) else (outZ m hO c t h0 hv, s.2)
  else if hv : liveAt m hO c t then (outB m hO c t h0 hv s.1 s.2, s.2) else s

/-- The output's and the scratch's contents after point `n` (the scratch's once an item with rows has begun). -/
def state (hO : Ok m) (c : Dev nD) : (n : ℕ) → n < (cfgM m hO).N → Vec F S1072x2048 .f32 × Vec F S1072x2048 .bf16
  | 0, hn => next m hO c ⟨0, hn⟩ (VO0_4.read (Elt F) VO0_4.junk, VS0_0.read (Elt F) VS0_0.junk)
  | n + 1, hn => next m hO c ⟨n + 1, hn⟩ (state hO c n (Nat.lt_of_succ_lt hn))

theorem state_pos (hO : Ok m) (c : Dev nD) (t : Fin (cfgM m hO).N) (hz : t.val ≠ 0) :
    state m hO c t.val t.isLt = next m hO c t (state m hO c (t.val - 1) (Nat.lt_of_le_of_lt (Nat.sub_le _ _) t.isLt)) := by
  obtain ⟨n, hn⟩ := t
  cases n with
  | zero => exact absurd rfl hz
  | succ n => rfl

theorem state_A (hO : Ok m) (c : Dev nD) (t : Fin (cfgM m hO).N) (h0 : t.val % 28 = 0) (hv : liveAt m hO c t) :
    state m hO c t.val t.isLt = (outA m hO c t h0 hv, soutA m hO c t h0 hv) := by
  have key : ∀ s, next m hO c t s = (outA m hO c t h0 hv, soutA m hO c t h0 hv) := fun s => by
    unfold next; rw [dif_pos h0, dif_pos hv]
  by_cases hz : t.val = 0
  · obtain ⟨n, hn⟩ := t
    obtain rfl : n = 0 := hz
    exact key _
  · rw [state_pos m hO c t hz]; exact key _

theorem state_Z (hO : Ok m) (c : Dev nD) (t : Fin (cfgM m hO).N) (h0 : t.val % 28 = 0) (hv : ¬liveAt m hO c t) :
    (state m hO c t.val t.isLt).1 = outZ m hO c t h0 hv := by
  have key : ∀ s, (next m hO c t s).1 = outZ m hO c t h0 hv := fun s => by
    unfold next; rw [dif_pos h0, dif_neg hv]
  by_cases hz : t.val = 0
  · obtain ⟨n, hn⟩ := t
    obtain rfl : n = 0 := hz
    exact key _
  · rw [state_pos m hO c t hz]; exact key _

theorem state_B (hO : Ok m) (c : Dev nD) (t : Fin (cfgM m hO).N) (h0 : ¬t.val % 28 = 0) (hv : liveAt m hO c t) :
    state m hO c t.val t.isLt
      = (outB m hO c t h0 hv (state m hO c (t.val - 1) (Nat.lt_of_le_of_lt (Nat.sub_le _ _) t.isLt)).1
          (state m hO c (t.val - 1) (Nat.lt_of_le_of_lt (Nat.sub_le _ _) t.isLt)).2,
        (state m hO c (t.val - 1) (Nat.lt_of_le_of_lt (Nat.sub_le _ _) t.isLt)).2) := by
  rw [state_pos m hO c t (fun h => h0 (by rw [h]))]
  unfold next; rw [dif_neg h0, dif_pos hv]

theorem state_N (hO : Ok m) (c : Dev nD) (t : Fin (cfgM m hO).N) (h0 : ¬t.val % 28 = 0) (hv : ¬liveAt m hO c t) :
    state m hO c t.val t.isLt = state m hO c (t.val - 1) (Nat.lt_of_le_of_lt (Nat.sub_le _ _) t.isLt) := by
  rw [state_pos m hO c t (fun h => h0 (by rw [h]))]
  unfold next; rw [dif_neg h0, dif_neg hv]

/-- The invariant before point `n`: the scratch holds `state`'s contents if the item of the point before has rows, anything
    otherwise; the generator register; and the tables' halves. -/
def PhiS (hO : Ok m) (c : Dev nD) : (n : ℕ) → n ≤ (cfgM m hO).N → sProp 𝕄
  | 0, _ => iprop(Pipeline.ΦA spec0 c ∗ Pipeline.ΦT pre0 (tbl m) c)
  | n + 1, hn => iprop(iprop((∃ d, ⌜liveAt m hO c ⟨n, hn⟩ → d = (state m hO c n hn).2⌝ ∗ owns (c : Thread nD τ) scM0_0 fullShare d) ∗ (∃ r, prngReg c r)) ∗ Pipeline.ΦT pre0 (tbl m) c)

theorem PhiS_zero (hO : Ok m) (c : Dev nD) (n : ℕ) (h : n ≤ (cfgM m hO).N) (hz : n = 0) : PhiS m hO c n h = iprop(Pipeline.ΦA spec0 c ∗ Pipeline.ΦT pre0 (tbl m) c) := by
  subst hz; rfl

theorem PhiS_succ (hO : Ok m) (c : Dev nD) (n : ℕ) (hn : n < (cfgM m hO).N) :
    PhiS m hO c (n + 1) hn = iprop(iprop((∃ d, ⌜liveAt m hO c ⟨n, hn⟩ → d = (state m hO c n hn).2⌝ ∗ owns (c : Thread nD τ) scM0_0 fullShare d) ∗ (∃ r, prngReg c r)) ∗ Pipeline.ΦT pre0 (tbl m) c) := rfl

theorem PhiS_pos (hO : Ok m) (c : Dev nD) (n : ℕ) (h : n ≤ (cfgM m hO).N) (hz : n ≠ 0) :
    PhiS m hO c n h = iprop(iprop((∃ d, ⌜liveAt m hO c ⟨n - 1, by omega⟩ → d = (state m hO c (n - 1) (by omega)).2⌝ ∗ owns (c : Thread nD τ) scM0_0 fullShare d) ∗ (∃ r, prngReg c r)) ∗ Pipeline.ΦT pre0 (tbl m) c) := by
  cases n with
  | zero => exact absurd rfl hz
  | succ n => rfl

/-- The proof data: each input's buffer at its block, the output's at `state`. -/
def dats (hO : Ok m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => (state m hO c t.val t.isLt).1
  Φ t := PhiS m hO c t.val (Nat.le_of_lt_succ t.isLt)
  q _ := fullShare
  owed _ := 0

theorem A_eq (hO : Ok m) (c : Dev nD) (w : Fin (cfgM m hO).W) : (dats m hO 0 c).A w = V m c (Pipeline.arrRef spec0 w) := by
  dsimp only [dats]

theorem PhiS_castSucc (hO : Ok m) (c : Dev nD) (t : Fin (cfgM m hO).N) :
    (dats m hO 0 c).Φ t.castSucc = PhiS m hO c t.val (Nat.le_of_lt t.isLt) := by
  dsimp only [dats]; exact Pipeline.Dat.Φ_castSucc (PhiS m hO c) t

theorem after0_0 (hO : Ok m) (c : Dev nD) (t : Fin (cfgM m hO).N) : (dats m hO 0 c).after 0 t = iblk m hO c 0 t := by dsimp only [dats]; try rfl
theorem after0_1 (hO : Ok m) (c : Dev nD) (t : Fin (cfgM m hO).N) : (dats m hO 0 c).after 1 t = iblk m hO c 1 t := by dsimp only [dats]; try rfl
theorem after0_2 (hO : Ok m) (c : Dev nD) (t : Fin (cfgM m hO).N) : (dats m hO 0 c).after 2 t = iblk m hO c 2 t := by dsimp only [dats]; try rfl
theorem after0_3 (hO : Ok m) (c : Dev nD) (t : Fin (cfgM m hO).N) : (dats m hO 0 c).after 3 t = iblk m hO c 3 t := by dsimp only [dats]; try rfl
theorem after0_4 (hO : Ok m) (c : Dev nD) (t : Fin (cfgM m hO).N) : (dats m hO 0 c).after 4 t = (state m hO c t.val t.isLt).1 := by dsimp only [dats]; try rfl

theorem before0_0 (hO : Ok m) (c : Dev nD) (t : Fin (cfgM m hO).N) (d) : (dats m hO 0 c).before 0 t d = iblk m hO c 0 t :=
  before0_0_of m hO (dats m hO 0 c) (A_eq m hO c 0) (after0_0 m hO c) t d
theorem before0_1 (hO : Ok m) (c : Dev nD) (t : Fin (cfgM m hO).N) (d) : (dats m hO 0 c).before 1 t d = iblk m hO c 1 t :=
  before0_1_of m hO (dats m hO 0 c) (A_eq m hO c 1) (after0_1 m hO c) t d
theorem before0_2 (hO : Ok m) (c : Dev nD) (t : Fin (cfgM m hO).N) (d) : (dats m hO 0 c).before 2 t d = iblk m hO c 2 t :=
  before0_2_of m hO (dats m hO 0 c) (A_eq m hO c 2) (after0_2 m hO c) t d
theorem before0_3 (hO : Ok m) (c : Dev nD) (t : Fin (cfgM m hO).N) (d) : (dats m hO 0 c).before 3 t d = iblk m hO c 3 t :=
  before0_3_of m hO (dats m hO 0 c) (A_eq m hO c 3) (after0_3 m hO c) t d
/-- The word the region reads of the table is the word the body reads. -/
theorem atD_eq (hO : Ok m) (c : Dev nD) (t : Fin (cfgM m hO).N) : (tbl m).atD 1 (k0_off1 (grid0.coords t)) = count (grid0.coords t) c (tbl m 1) := by
  obtain rfl : c = 0 := Subsingleton.elim _ _
  refine Eq.trans ?_ (View.readAt_apply ..).symm
  unfold Pipeline.Prefetch.Contents.atD
  split
  · rfl
  · next hn => exact absurd (fun a => by fin_cases a; exact k0_off1_inb (grid0.coords t) 0) hn

/-- The body stores nothing into the output's buffer exactly at a later tile of an item without rows. -/
theorem idle_iff (hO : Ok m) (c : Dev nD) (t : Fin (cfgM m hO).N) : (cfgM m hO).idle 4 (grid0.coords t) = true ↔ ¬t.val % 28 = 0 ∧ ¬liveAt m hO c t := by
  show (!(k0_cond1 (grid0.coords t) == 1#1) && !(k0_cond2 ((tbl m).atD 1 (k0_off1 (grid0.coords t))) == 1#1)) = true ↔ _
  rw [atD_eq m hO c t]
  simp only [Bool.and_eq_true, Bool.not_eq_true', beq_eq_false_iff_ne, ne_eq]
  exact and_congr (not_congr (hcond0_0 t)) Iff.rfl

/-- The output's buffer holds nothing of the body's exactly where an item begins. -/
theorem fresh_eq (hO : Ok m) (c : Dev nD) (n : ℕ) (h : n ≤ (cfgM m hO).N) : (cfgM m hO).fresh 4 n = decide (n % 28 = 0) := by
  refine Pipeline.Cfg.fresh_tab (cfgM m hO) 4 (fun n => decide (n % 28 = 0)) rfl (fun t => ?_) n h
  rw [Bool.eq_iff_iff, Bool.or_eq_true, Bool.and_eq_true, flush0_4 (adm m hO) t, idle_iff m hO c t]
  simp only [decide_eq_true_eq]
  constructor
  · intro h; exact .inl (by omega)
  · rintro (h | ⟨⟨h, -⟩, h'⟩)
    · omega
    · exact absurd h' h

/-- Where the body stores nothing into the output's buffer, the contents are those of the point before. -/
theorem after_carry (hO : Ok m) (c : Dev nD) (t : Fin (cfgM m hO).N) (hi : (cfgM m hO).idle 4 (grid0.coords t) = true) :
    (dats m hO 0 c).after 4 t = (dats m hO 0 c).after 4 ⟨t.val - 1, Nat.lt_of_le_of_lt (Nat.sub_le _ _) t.isLt⟩ := by
  obtain ⟨h0, hv⟩ := (idle_iff m hO c t).mp hi
  rw [after0_4, after0_4]
  exact congrArg Prod.fst (state_N m hO c t h0 hv)

/-- At a later tile the output's buffer holds what the point before left. -/
theorem before0_4_kept (hO : Ok m) (c : Dev nD) (t : Fin (cfgM m hO).N) (h0 : ¬t.val % 28 = 0) (d) :
    (dats m hO 0 c).before 4 t d = (state m hO c (t.val - 1) (Nat.lt_of_le_of_lt (Nat.sub_le _ _) t.isLt)).1 := by
  rw [(dats m hO 0 c).before_out_traj 4 rfl (fun _ _ => rfl) (fun t _ hi _ => after_carry m hO c t hi) t.val t rfl d,
    if_neg (by rw [fresh_eq m hO c t.val (Nat.le_of_lt t.isLt)]; simpa using h0), after0_4]

end Cert.ExpertsIdeal.Body

end
-- ==== Proof.ExpertsIdeal.Point.lean ====
/- One grid point of the experts' call: what its body leaves in the output's staging buffer and in the scratch that holds
   the item's rows, as values of the blocks it reads. -/
module

public import proofs.«01_k».proof.Proof.ExpertsIdeal.State
public import proofs.«01_k».proof.Proof.Experts.Layer
public import Idealize.ShloMosaic.Lib.Pipeline.Value
public import Idealize.ShloMosaic.Lib.Pipeline.ValueKit.Tiles
public import Idealize.ShloMosaic.Lib.Tactic
public import Idealize.ShloMosaic.Lib.Pointwise

@[expose] public section

noncomputable section

open Idealize.ShloMosaic Idealize.ShloMosaic.TcCoe Idealize.SL.Sem

namespace Cert.ExpertsIdeal.Point

open Cert.ExpertsIdeal Cert.ExpertsIdeal.Gen Cert.ExpertsIdeal.Body

variable {F : FTy → Type} [FloatOps F]

theorem hz : (![0, 0] : Fin 2 → Nat) = fun _ => 0 := funext fun a => by fin_cases a <;> rfl
theorem hz3 : (![0, 0, 0] : Fin 3 → Nat) = fun _ => 0 := funext fun a => by fin_cases a <;> rfl

/-- The item's rows, unpacked: the words' low halves, then their high halves. -/
def rows (v : Vec F S1072x1024 .i32) : Vec F S1072x2048 .bf16 := fun y =>
  if h : (y 1).val < 1024 then k0_pay2 v (ix2 (y 0) ⟨(y 1).val, h⟩)
  else k0_pay3 v (ix2 (y 0) ⟨(y 1).val - 1024, by have := (y 1).isLt; have : (y 1).val < 2048 := this; omega⟩)

theorem cover_rows (v : Vec F S1072x1024 .i32) (h1 : ∀ a, (![0, 1024] : Fin 2 → Nat) a + S1072x1024.size a ≤ S1072x2048.size a)
    (h2 : ∀ a, (![0, 0] : Fin 2 → Nat) a + S1072x1024.size a ≤ S1072x2048.size a) (y : S1072x2048.Idx) :
    ∃ p ∈ ([⟨Rect.unit (s := S1072x2048) ![0, 1024] S1072x1024.size h1, k0_pay3 v⟩,
      ⟨Rect.unit (s := S1072x2048) ![0, 0] S1072x1024.size h2, k0_pay2 v⟩] : List (View.Piece (Elt F) S1072x2048 .bf16)), y ∈ p.1.set :=
  View.cover_of_tiledL ([⟨Rect.unit (s := S1072x2048) ![0, 1024] S1072x1024.size h1, k0_pay3 v⟩,
    ⟨Rect.unit (s := S1072x2048) ![0, 0] S1072x1024.size h2, k0_pay2 v⟩] : List (View.Piece (Elt F) S1072x2048 .bf16)) S1072x1024.size (by sl_kernel_rfl) y

theorem canon_rows (v : Vec F S1072x1024 .i32) (h1 : ∀ a, (![0, 1024] : Fin 2 → Nat) a + S1072x1024.size a ≤ S1072x2048.size a)
    (h2 : ∀ a, (![0, 0] : Fin 2 → Nat) a + S1072x1024.size a ≤ S1072x2048.size a) :
    View.canon ([⟨Rect.unit (s := S1072x2048) ![0, 1024] S1072x1024.size h1, k0_pay3 v⟩,
      ⟨Rect.unit (s := S1072x2048) ![0, 0] S1072x1024.size h2, k0_pay2 v⟩] : List (View.Piece (Elt F) S1072x2048 .bf16)) = rows v := by
  funext y
  refine View.canon_eq_of_allAt _ y _ (cover_rows v h1 h2 y) (View.allAt_cons_unit _ _ _ _ _ (fun x hx => ?_)
    (View.allAt_cons_unit _ _ _ _ _ (fun x hx => ?_) (View.allAt_nil _ _)))
  · have e0 : (y 0).val = 0 + (x 0).val := hx 0
    have e1 : (y 1).val = 1024 + (x 1).val := hx 1
    unfold rows
    rw [dif_neg (by omega)]
    congr 1
    funext a
    apply Fin.ext
    match a with
    | ⟨0, _⟩ => show (x 0).val = (y 0).val; omega
    | ⟨1, _⟩ => show (x 1).val = (y 1).val - 1024; omega
  · have e0 : (y 0).val = 0 + (x 0).val := hx 0
    have e1 : (y 1).val = 0 + (x 1).val := hx 1
    have hx1 : (x 1).val < 1024 := (x 1).isLt
    unfold rows
    rw [dif_pos (by omega)]
    congr 1
    funext a
    apply Fin.ext
    match a with
    | ⟨0, _⟩ => show (x 0).val = (y 0).val; omega
    | ⟨1, _⟩ => show (x 1).val = (y 1).val; omega

variable (m : (ℓ : Loc nD τ sig) → Buf (Elt F) ℓ) (hO : Ok m) (c : Dev nD) (t : Fin (cfgM m hO).N)

/-- At the first tile of an item with rows the scratch is left at the item's rows. -/
theorem soutA_eq (h0 : t.val % 28 = 0) (hv : liveAt m hO c t) : soutA m hO c t h0 hv = rows (iblk m hO c 0 t) := by
  unfold soutA
  rw [View.read_writes_eq_canon _ _ _ (scoverA m hO c t h0 hv)]
  unfold runAtA runA
  dsimp only
  sl_unfold_words
  simp only [View.readAt_eq_ld, View.ld_unit_zero (S := S1072x1024) hz]
  refine (canon_rows _ _ _).trans ?_
  exact congrArg rows ((hs0_0 m hO t).read_unread _)

/-- At the first tile of an item with rows the output is left at the first tile's share. -/
theorem outA_eq (h0 : t.val % 28 = 0) (hv : liveAt m hO c t) :
    outA m hO c t h0 hv = k0_pay4 k0_pay1 (rows (iblk m hO c 0 t)) (iblk m hO c 1 t) (iblk m hO c 2 t) (iblk m hO c 3 t) := by
  unfold outA
  rw [View.read_writes_eq_canon _ _ _ (coverA m hO c t h0 hv)]
  unfold runAtA runA
  dsimp only
  sl_unfold_words
  rw [View.canon_cons_unit_zero (S := S1072x2048) hz]
  simp only [View.readAt_eq_ld, View.ld_unit_zero (S := S1072x1024) hz, View.ld_unit_zero (S := S1x2048x256) hz3,
    View.ld_unit_zero (S := S1x256x2048) hz3, View.readCov_unit_zero (S := S1072x2048) _ hz]
  rw [View.readCov_eq_canon_ld _ _ _ (cover_rows _ _ _), canon_rows _ _ _, View.ld_unit_zero (S := S1072x2048) hz]
  exact congr (congr (congr (congrArg (fun x => k0_pay4 k0_pay1 (rows x)) ((hs0_0 m hO t).read_unread _)) ((hs0_1 m hO t).read_unread _))
    ((hs0_2 m hO t).read_unread _)) ((hs0_3 m hO t).read_unread _)

/-- At a later tile of an item with rows the output gains the tile's share. -/
theorem outB_eq (h0 : ¬t.val % 28 = 0) (hv : liveAt m hO c t) (xo : Vec F S1072x2048 .f32) (xs : Vec F S1072x2048 .bf16) :
    outB m hO c t h0 hv xo xs = k0_pay4 xo xs (iblk m hO c 1 t) (iblk m hO c 2 t) (iblk m hO c 3 t) := by
  unfold outB
  rw [View.read_writes_eq_canon _ _ _ (coverB m hO c t h0 hv xo xs)]
  unfold runAtB runB
  dsimp only
  sl_unfold_words
  rw [View.canon_cons_unit_zero (S := S1072x2048) hz]
  simp only [View.readAt_eq_ld, View.ld_unit_zero (S := S1072x2048) hz, View.ld_unit_zero (S := S1x2048x256) hz3,
    View.ld_unit_zero (S := S1x256x2048) hz3]
  exact congr (congr (congr (congr (congrArg k0_pay4 ((hs0_4 m hO t).read_unread _)) ((Memref.isWhole_whole _).read_unread _))
    ((hs0_1 m hO t).read_unread _)) ((hs0_2 m hO t).read_unread _)) ((hs0_3 m hO t).read_unread _)

/-- At the first tile of an item without rows the output is left at zeros. -/
theorem outZ_eq (h0 : t.val % 28 = 0) (hv : ¬liveAt m hO c t) : outZ m hO c t h0 hv = k0_pay1 := by
  unfold outZ
  rw [View.read_writes_eq_canon _ _ _ (coverZ m hO c t h0 hv)]
  unfold runAtZ runZ
  dsimp only
  sl_unfold_words
  rw [View.canon_cons_unit_zero (S := S1072x2048) hz]

end Cert.ExpertsIdeal.Point

namespace Cert.ExpertsIdeal.Point

open Cert.ExpertsIdeal Cert.ExpertsIdeal.Gen Cert.ExpertsIdeal.Body

/-! ## The values, element by element at the extended reals -/

theorem zeros_apply (r : Fin 1072) (d : Fin 2048) : (k0_pay1 : FVec Ideal S1072x2048 .f32) (ix2 r d) = 0 := by
  pointwise [k0_pay1]

theorem rows_apply (v : Vec Ideal S1072x1024 .i32) (r : Fin 1072) (k : Fin 2048) :
    rows v (ix2 r k) = Experts.Layer.unpack (fun k => v (ix2 r k)) k := by
  unfold rows Experts.Layer.unpack
  by_cases h : k.val < 1024
  · rw [dif_pos h, dif_pos (show ((ix2 r k : S1072x2048.Idx) 1).val < 1024 from h)]
    pointwise [k0_pay2]
    rfl
  · rw [dif_neg h, dif_neg (show ¬((ix2 r k : S1072x2048.Idx) 1).val < 1024 from h)]
    pointwise [k0_pay3]
    rfl

theorem tile_apply (xo : Vec Ideal S1072x2048 .f32) (xs : Vec Ideal S1072x2048 .bf16) (x1 x2 : Vec Ideal S1x2048x256 .f32) (x3 : Vec Ideal S1x256x2048 .f32)
    (r : Fin 1072) (d : Fin 2048) :
    k0_pay4 xo xs x1 x2 x3 (ix2 r d) = xo (ix2 r d) + ∑ q : Fin 256,
      Swiglu.act (fun k => xs (ix2 r k)) (fun k => x1 (ix3 0 k q)) (fun k => x2 (ix3 0 k q)) * x3 (ix3 0 q d) := by
  pointwise [k0_pay4]
  rfl

end Cert.ExpertsIdeal.Point

end
-- ==== Proof.ExpertsIdeal.Launch.lean ====
/- The experts' call runs: every point's run, and the launch. -/
module

public import proofs.«01_k».proof.Proof.ExpertsIdeal.State
public import Idealize.ShloMosaic.Lib.Claim

@[expose] public section

set_option maxRecDepth 16384

noncomputable section

namespace Cert.ExpertsIdeal.Body

open Cert.ExpertsIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What the body is called with at point `t`. -/
def bodyPre (hO : Ok m) (c : Dev nD) (t : Fin (cfgM m hO).N) : sProp 𝕄 :=
  iprop((dats m hO 0 c).Φ t.castSucc ∗ (dats m hO 0 c).owesAt () t.castSucc
    ∗ (∃ d, owns (c : Thread nD τ) (ms0_0 m hO t) fullShare ((dats m hO 0 c).before 0 t d))
    ∗ (∃ d, owns (c : Thread nD τ) (ms0_1 m hO t) fullShare ((dats m hO 0 c).before 1 t d))
    ∗ (∃ d, owns (c : Thread nD τ) (ms0_2 m hO t) fullShare ((dats m hO 0 c).before 2 t d))
    ∗ (∃ d, owns (c : Thread nD τ) (ms0_3 m hO t) fullShare ((dats m hO 0 c).before 3 t d))
    ∗ (∃ d, owns (c : Thread nD τ) (ms0_4 m hO t) fullShare ((dats m hO 0 c).before 4 t d)))

/-- What it returns. -/
def bodyPost (hO : Ok m) (c : Dev nD) (t : Fin (cfgM m hO).N) : sProp 𝕄 :=
  iprop((dats m hO 0 c).Φ t.succ ∗ (dats m hO 0 c).owesAt () t.succ
    ∗ owns (c : Thread nD τ) (ms0_0 m hO t) fullShare ((dats m hO 0 c).after 0 t)
    ∗ owns (c : Thread nD τ) (ms0_1 m hO t) fullShare ((dats m hO 0 c).after 1 t)
    ∗ owns (c : Thread nD τ) (ms0_2 m hO t) fullShare ((dats m hO 0 c).after 2 t)
    ∗ owns (c : Thread nD τ) (ms0_3 m hO t) fullShare ((dats m hO 0 c).after 3 t)
    ∗ owns (c : Thread nD τ) (ms0_4 m hO t) fullShare ((dats m hO 0 c).after 4 t))

set_option maxHeartbeats 3200000 in
/-- The body at any point, case by case. -/
theorem sound_body (hO : Ok m) (c : Dev nD) (t : Fin (cfgM m hO).N) :
    bodyPre m hO c t ⊢ wp frame (wpE (defs₀ (F := F)) Variants.none c none) Set.univ (bodyAt0 (adm m hO) t) (fun _ => bodyPost m hO c t) := by
  unfold bodyPre bodyPost bodyAt0
  simp only [before0_0, before0_1, before0_2, before0_3]
  rw [show (dats m hO 0 c).owesAt () t.succ = (dats m hO 0 c).owesAt () t.castSucc from rfl,
    after0_0, after0_1, after0_2, after0_3, after0_4]
  rw [show (dats m hO 0 c).Φ t.succ = PhiS m hO c (t.val + 1) t.isLt from rfl, PhiS_succ, PhiT0_eq]
  by_cases h0 : t.val % 28 = 0
  · by_cases hv : liveAt m hO c t
    · rw [state_A m hO c t h0 hv]
      try dsimp only
      unfold outA soutA
      by_cases hz : t.val = 0
      · rw [PhiS_castSucc m hO c t, PhiS_zero m hO c _ _ hz, PhiT0_eq, PhiA0_eq]
        iintro ⟨⟨⟨HS0, Hg⟩, ⟨HT0, HT1⟩⟩, Ho, ⟨%d0, H0⟩, ⟨%d1, H1⟩, ⟨%d2, H2⟩, ⟨%d3, H3⟩, ⟨%d4, H4⟩⟩
        iapply ((runA c (grid0.coords t) _ _ _ _ _ _ _ _ _ _ _ _ (iblk m hO c 0 t) (iblk m hO c 1 t) (iblk m hO c 2 t) (iblk m hO c 3 t) (tbl m 0) (tbl m 1) ((hcond0_0 t).mpr h0) hv).2.2 Set.univ _)
        isplitl [H0]; · iexact H0
        isplitl [H1]; · iexact H1
        isplitl [H2]; · iexact H2
        isplitl [H3]; · iexact H3
        isplitl [H4]; · iexists _; iexact H4
        isplitl [HS0]; · iexact HS0
        isplitl [HT0]; · iexact HT0
        isplitl [HT1]; · iexact HT1
        iintro ⟨H0, H1, H2, H3, ⟨%e4, H4⟩, ⟨%es0, HS0⟩, HT0, HT1⟩
        isplitl [HS0 Hg HT0 HT1]
        · isplitl [HS0 Hg]
          · isplitl [HS0]
            · iexists _; isplitr
              · ipureintro; exact fun _ => rfl
              unfold owns; iexists _; isplitr
              swap; · iexact HS0
              ipureintro; exact View.read_writes_of_cover _ _ _ _ _ (scoverA m hO c t h0 hv)
            iexact Hg
          isplitl [HT0]; · iexact HT0
          iexact HT1
        isplitl [Ho]; · iexact Ho
        isplitl [H0]; · iexact H0
        isplitl [H1]; · iexact H1
        isplitl [H2]; · iexact H2
        isplitl [H3]; · iexact H3
        unfold owns; iexists _; isplitr
        swap; · iexact H4
        ipureintro; exact View.read_writes_of_cover _ _ _ _ _ (coverA m hO c t h0 hv)
      · rw [PhiS_castSucc m hO c t, PhiS_pos m hO c _ _ hz, PhiT0_eq]
        iintro ⟨⟨⟨⟨%ds0, %hds0, HS0⟩, Hg⟩, ⟨HT0, HT1⟩⟩, Ho, ⟨%d0, H0⟩, ⟨%d1, H1⟩, ⟨%d2, H2⟩, ⟨%d3, H3⟩, ⟨%d4, H4⟩⟩
        iapply ((runA c (grid0.coords t) _ _ _ _ _ _ _ _ _ _ _ _ (iblk m hO c 0 t) (iblk m hO c 1 t) (iblk m hO c 2 t) (iblk m hO c 3 t) (tbl m 0) (tbl m 1) ((hcond0_0 t).mpr h0) hv).2.2 Set.univ _)
        isplitl [H0]; · iexact H0
        isplitl [H1]; · iexact H1
        isplitl [H2]; · iexact H2
        isplitl [H3]; · iexact H3
        isplitl [H4]; · iexists _; iexact H4
        isplitl [HS0]; · iexists _; iexact HS0
        isplitl [HT0]; · iexact HT0
        isplitl [HT1]; · iexact HT1
        iintro ⟨H0, H1, H2, H3, ⟨%e4, H4⟩, ⟨%es0, HS0⟩, HT0, HT1⟩
        isplitl [HS0 Hg HT0 HT1]
        · isplitl [HS0 Hg]
          · isplitl [HS0]
            · iexists _; isplitr
              · ipureintro; exact fun _ => rfl
              unfold owns; iexists _; isplitr
              swap; · iexact HS0
              ipureintro; exact View.read_writes_of_cover _ _ _ _ _ (scoverA m hO c t h0 hv)
            iexact Hg
          isplitl [HT0]; · iexact HT0
          iexact HT1
        isplitl [Ho]; · iexact Ho
        isplitl [H0]; · iexact H0
        isplitl [H1]; · iexact H1
        isplitl [H2]; · iexact H2
        isplitl [H3]; · iexact H3
        unfold owns; iexists _; isplitr
        swap; · iexact H4
        ipureintro; exact View.read_writes_of_cover _ _ _ _ _ (coverA m hO c t h0 hv)
    · rw [state_Z m hO c t h0 hv]
      try dsimp only
      unfold outZ
      by_cases hz : t.val = 0
      · rw [PhiS_castSucc m hO c t, PhiS_zero m hO c _ _ hz, PhiT0_eq, PhiA0_eq]
        iintro ⟨⟨⟨HS0, Hg⟩, ⟨HT0, HT1⟩⟩, Ho, ⟨%d0, H0⟩, ⟨%d1, H1⟩, ⟨%d2, H2⟩, ⟨%d3, H3⟩, ⟨%d4, H4⟩⟩
        iapply ((runZ c (grid0.coords t) _ _ _ _ _ _ _ _ _ _ _ _ (iblk m hO c 0 t) (iblk m hO c 1 t) (iblk m hO c 2 t) (iblk m hO c 3 t) (tbl m 0) (tbl m 1) ((hcond0_0 t).mpr h0) hv).2 Set.univ _)
        isplitl [H0]; · iexact H0
        isplitl [H1]; · iexact H1
        isplitl [H2]; · iexact H2
        isplitl [H3]; · iexact H3
        isplitl [H4]; · iexists _; iexact H4
        isplitl [HS0]; · iexact HS0
        isplitl [HT0]; · iexact HT0
        isplitl [HT1]; · iexact HT1
        iintro ⟨H0, H1, H2, H3, ⟨%e4, H4⟩, ⟨%es0, HS0⟩, HT0, HT1⟩
        isplitl [HS0 Hg HT0 HT1]
        · isplitl [HS0 Hg]
          · isplitl [HS0]
            · iexists es0; isplitr
              · ipureintro; exact fun h => absurd h hv
              iexact HS0
            iexact Hg
          isplitl [HT0]; · iexact HT0
          iexact HT1
        isplitl [Ho]; · iexact Ho
        isplitl [H0]; · iexact H0
        isplitl [H1]; · iexact H1
        isplitl [H2]; · iexact H2
        isplitl [H3]; · iexact H3
        unfold owns; iexists _; isplitr
        swap; · iexact H4
        ipureintro; exact View.read_writes_of_cover _ _ _ _ _ (coverZ m hO c t h0 hv)
      · rw [PhiS_castSucc m hO c t, PhiS_pos m hO c _ _ hz, PhiT0_eq]
        iintro ⟨⟨⟨⟨%ds0, %hds0, HS0⟩, Hg⟩, ⟨HT0, HT1⟩⟩, Ho, ⟨%d0, H0⟩, ⟨%d1, H1⟩, ⟨%d2, H2⟩, ⟨%d3, H3⟩, ⟨%d4, H4⟩⟩
        iapply ((runZ c (grid0.coords t) _ _ _ _ _ _ _ _ _ _ _ _ (iblk m hO c 0 t) (iblk m hO c 1 t) (iblk m hO c 2 t) (iblk m hO c 3 t) (tbl m 0) (tbl m 1) ((hcond0_0 t).mpr h0) hv).2 Set.univ _)
        isplitl [H0]; · iexact H0
        isplitl [H1]; · iexact H1
        isplitl [H2]; · iexact H2
        isplitl [H3]; · iexact H3
        isplitl [H4]; · iexists _; iexact H4
        isplitl [HS0]; · iexists _; iexact HS0
        isplitl [HT0]; · iexact HT0
        isplitl [HT1]; · iexact HT1
        iintro ⟨H0, H1, H2, H3, ⟨%e4, H4⟩, ⟨%es0, HS0⟩, HT0, HT1⟩
        isplitl [HS0 Hg HT0 HT1]
        · isplitl [HS0 Hg]
          · isplitl [HS0]
            · iexists es0; isplitr
              · ipureintro; exact fun h => absurd h hv
              iexact HS0
            iexact Hg
          isplitl [HT0]; · iexact HT0
          iexact HT1
        isplitl [Ho]; · iexact Ho
        isplitl [H0]; · iexact H0
        isplitl [H1]; · iexact H1
        isplitl [H2]; · iexact H2
        isplitl [H3]; · iexact H3
        unfold owns; iexists _; isplitr
        swap; · iexact H4
        ipureintro; exact View.read_writes_of_cover _ _ _ _ _ (coverZ m hO c t h0 hv)
  · have hz : t.val ≠ 0 := fun h => h0 (by rw [h])
    rw [PhiS_castSucc m hO c t, PhiS_pos m hO c _ _ hz, PhiT0_eq]
    simp only [before0_4_kept m hO c t h0]
    by_cases hv : liveAt m hO c t
    · rw [state_B m hO c t h0 hv]
      dsimp only
      unfold outB
      iintro ⟨⟨⟨⟨%ds0, %hds0, HS0⟩, Hg⟩, ⟨HT0, HT1⟩⟩, Ho, ⟨%d0, H0⟩, ⟨%d1, H1⟩, ⟨%d2, H2⟩, ⟨%d3, H3⟩, ⟨%d4, H4⟩⟩
      obtain rfl := hds0 ((live_pred m hO c t hz h0).mp hv)
      iapply ((runB c (grid0.coords t) _ _ _ _ _ _ _ _ _ _ _ _ (iblk m hO c 0 t) (iblk m hO c 1 t) (iblk m hO c 2 t) (iblk m hO c 3 t) (tbl m 0) (tbl m 1) (fun h => h0 ((hcond0_0 t).mp h)) hv _ _).2 Set.univ _)
      isplitl [H0]; · iexact H0
      isplitl [H1]; · iexact H1
      isplitl [H2]; · iexact H2
      isplitl [H3]; · iexact H3
      isplitl [H4]; · iexact H4
      isplitl [HS0]; · iexact HS0
      isplitl [HT0]; · iexact HT0
      isplitl [HT1]; · iexact HT1
      iintro ⟨H0, H1, H2, H3, ⟨%e4, H4⟩, HS0, HT0, HT1⟩
      isplitl [HS0 Hg HT0 HT1]
      · isplitl [HS0 Hg]
        · isplitl [HS0]
          · iexists _; isplitr
            · ipureintro; exact fun _ => rfl
            iexact HS0
          iexact Hg
        isplitl [HT0]; · iexact HT0
        iexact HT1
      isplitl [Ho]; · iexact Ho
      isplitl [H0]; · iexact H0
      isplitl [H1]; · iexact H1
      isplitl [H2]; · iexact H2
      isplitl [H3]; · iexact H3
      unfold owns; iexists _; isplitr
      swap; · iexact H4
      ipureintro; exact View.read_writes_of_cover _ _ _ _ _ (coverB m hO c t h0 hv _ _)
    · rw [state_N m hO c t h0 hv]
      iintro ⟨⟨⟨⟨%ds0, %hds0, HS0⟩, Hg⟩, ⟨HT0, HT1⟩⟩, Ho, ⟨%d0, H0⟩, ⟨%d1, H1⟩, ⟨%d2, H2⟩, ⟨%d3, H3⟩, ⟨%d4, H4⟩⟩
      iapply ((runN c (grid0.coords t) _ _ _ _ _ _ _ _ _ _ _ _ (iblk m hO c 0 t) (iblk m hO c 1 t) (iblk m hO c 2 t) (iblk m hO c 3 t) (tbl m 0) (tbl m 1) (fun h => h0 ((hcond0_0 t).mp h)) hv _ _) Set.univ _)
      isplitl [H0]; · iexact H0
      isplitl [H1]; · iexact H1
      isplitl [H2]; · iexact H2
      isplitl [H3]; · iexact H3
      isplitl [H4]; · iexact H4
      isplitl [HS0]; · iexact HS0
      isplitl [HT0]; · iexact HT0
      isplitl [HT1]; · iexact HT1
      iintro ⟨H0, H1, H2, H3, H4, HS0, HT0, HT1⟩
      isplitl [HS0 Hg HT0 HT1]
      · isplitl [HS0 Hg]
        · isplitl [HS0]
          · iexists ds0; isplitr
            · ipureintro; exact fun h => absurd h hv
            iexact HS0
          iexact Hg
        isplitl [HT0]; · iexact HT0
        iexact HT1
      isplitl [Ho]; · iexact Ho
      isplitl [H0]; · iexact H0
      isplitl [H1]; · iexact H1
      isplitl [H2]; · iexact H2
      isplitl [H3]; · iexact H3
      iexact H4

/-- What the library asks of the output's buffer follows: where the body stored nothing it is as found. -/
theorem post_leaves (hO : Ok m) (c : Dev nD) (t : Fin (cfgM m hO).N) : bodyPost m hO c t ⊢ iprop((dats m hO 0 c).Φ t.succ ∗ (dats m hO 0 c).owesAt () t.succ
    ∗ owns (c : Thread nD τ) (ms0_0 m hO t) fullShare ((dats m hO 0 c).after 0 t)
    ∗ owns (c : Thread nD τ) (ms0_1 m hO t) fullShare ((dats m hO 0 c).after 1 t)
    ∗ owns (c : Thread nD τ) (ms0_2 m hO t) fullShare ((dats m hO 0 c).after 2 t)
    ∗ owns (c : Thread nD τ) (ms0_3 m hO t) fullShare ((dats m hO 0 c).after 3 t)
    ∗ (match (cfgM m hO).idle 4 (grid0.coords t) with
        | true =>
          match ((cfgM m hO).win 4).flush t with
          | false => iprop(∃ d, owns (c : Thread nD τ) (ms0_4 m hO t) fullShare ((dats m hO 0 c).before 4 t d))
          | true => owns (c : Thread nD τ) (ms0_4 m hO t) fullShare ((dats m hO 0 c).after 4 t)
        | false => owns (c : Thread nD τ) (ms0_4 m hO t) fullShare ((dats m hO 0 c).after 4 t))) := by
  unfold bodyPost
  cases hi : (cfgM m hO).idle 4 (grid0.coords t) with
  | false => exact .rfl
  | true =>
    cases hf : ((cfgM m hO).win 4).flush t with
    | true => exact .rfl
    | false =>
      simp only [before0_4_kept m hO c t ((idle_iff m hO c t).mp hi).1]
      rw [after_carry m hO c t hi, after0_4]
      iintro ⟨H, Ho, H0, H1, H2, H3, H4⟩
      isplitl [H]; · iexact H
      isplitl [Ho]; · iexact Ho
      isplitl [H0]; · iexact H0
      isplitl [H1]; · iexact H1
      isplitl [H2]; · iexact H2
      isplitl [H3]; · iexact H3
      iexists (VO0_4.read (Elt F) VO0_4.junk)
      iexact H4

theorem defs₀_row (hO : Ok m) (t : Fin (cfgM m hO).N) :
    defs₀ (F := F) .tc (cfgM m hO).body ((cfgM m hO).bodyArgs t ((cfgM m hO).slots t)) = bodyAt0 (adm m hO) t := by
  unfold defs₀; rw [Defs.onTc_tc]

/-- The body obligation: the body's triple, as the library states it. -/
theorem body_obligation (hO : Ok m) (c : Dev nD) : BodyObligation (dats (F := F) m hO 0 c) (defs₀ (F := F)) Variants.none () Set.univ := fun t => by
  rw [bigSep_W0, bigSep_W0, defs₀_row m hO]
  exact triple_restated (sound_body m hO c t) rfl .rfl fun _ => post_leaves m hO c t

theorem hin (hO : Ok m) (c : Dev nD) : iprop(Pipeline.ΦA spec0 c ∗ Pipeline.ΦT pre0 (tbl m) c) ⊢ (dats m hO 0 c).Φ 0 := by
  rw [show (dats m hO 0 c).Φ 0 = PhiS m hO c 0 (Nat.zero_le _) from rfl]
  exact Idealize.SL.BI.Entails.refl _

/-- After the last point the scratch's contents are forgotten. -/
theorem hout (hO : Ok m) (c : Dev nD) : (dats m hO 0 c).Φ (Fin.last (cfgM m hO).N) ⊢ Pipeline.ΦA spec0 c := by
  have hN : (cfgM m hO).N = 644 := N_0
  rw [show (dats m hO 0 c).Φ (Fin.last (cfgM m hO).N) = PhiS m hO c (cfgM m hO).N (Nat.le_refl _) from rfl,
    PhiS_pos m hO c _ _ (by omega), PhiA0_eq]
  iintro ⟨⟨⟨%ds0, -, HS0⟩, Hg⟩, -⟩
  isplitl [HS0]
  · iexists _; iexact HS0
  iexact Hg

-- `θ_run_frameP_track`'s implicit arguments are found by unifying its conclusion with this one, which takes unfolding plain
-- definitions in a metavariable's type
set_option backward.isDefEq.respectTransparency.types false in
/-- The launch, with every semaphore counter back at zero. -/
theorem run_main_quiescent (hO : Ok m) : θ_run defs (onTc (τ := τ) (main (F := F))) (s₀ m ρ) (fun r => (Pipeline.FramePost (Pipeline.pin pcfgs fun _ => adm m hO) (dats m hO) 0 (V m)) r ∧ r.2.sem = fun _ => 0) :=
  Pipeline.θ_run_frameP_track (Q' := _) pcfgs (fun _ => adm m hO) (dats m hO) (0 : Fin 1) launch0 defs₀ Variants.none m ρ main
    (hbody := fun c => (body_obligation m hO c).loose) (hshare := fun c => (dats m hO 0 c).share_full fun _ => rfl)
    (howed := fun _ _ => rfl) (V := V m) (hmain := hmain m Variants.none) (hA := A_eq m hO) (hpf := V_pre m)
    (hin := hin m hO) (hout := hout m hO)

/-- The launch: every staged array ends at what the proof data says. -/
theorem run_main (hO : Ok m) : θ_run defs (onTc (τ := τ) (main (F := F))) (s₀ m ρ) (Pipeline.FramePost (Pipeline.pin pcfgs fun _ => adm m hO) (dats m hO) 0 (V m)) :=
  (θ_run defs _ _).mono (fun _ h => h.1) (run_main_quiescent m ρ hO)

/-- The arguments end unchanged. -/
theorem unchanged (hO : Ok m) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of m ρ hO (dats m hO) (A_eq m hO) (run_main m ρ hO)

/-- The frame, from any memory whose tables are admissible. -/
theorem frame (hO : Ok m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (unchanged m ρ hO) ((θ_run defs _ _).mono (fun _ h => h.2) (run_main_quiescent m ρ hO))

end Cert.ExpertsIdeal.Body

end
-- ==== Proof.ExpertsIdeal.Tables.lean ====
/- The experts' tables: where the first names experts, every block that the call moves lies inside its array. -/
module

public import proofs.«01_k».proof.Proof.ExpertsIdeal.Launch
public import proofs.«01_k».proof.Proof.Experts.Range

@[expose] public section

noncomputable section

namespace Cert.ExpertsIdeal.Body

open Cert.ExpertsIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The tile of hidden units a block is taken from. -/
theorem tile_le (b : BitVec 1) (i : grid0.Coords) : (Scalar.select b (BitVec.ofNat 32 (i 1).val) 27#32).toNat ≤ 27 := by
  have hi : (i 1).val < 28 := (i 1).isLt
  unfold Scalar.select
  split
  · rw [BitVec.toNat_ofNat]; omega
  · decide

theorem ok_of_le7 (h : ∀ j : S23.Idx, (m (((0 : Dev nD) : Thread nD τ).loc main_arg0) j : BitVec 32).toNat ≤ 7) : Ok m :=
  ⟨fun i => ⟨fun a => match a with
      | ⟨0, _⟩ => Nat.le_trans (Nat.le_of_eq (Nat.mul_one _)) (Nat.succ_le_succ (h _))
      | ⟨1, _⟩ => Nat.le_of_eq (Nat.one_mul 2048)
      | ⟨2, _⟩ => Nat.le_trans (Nat.mul_le_mul_right 256 (Nat.succ_le_succ (tile_le _ i))) (show Nat.succ 27 * 256 ≤ 7168 from by decide),
      .inl rfl⟩,
    fun i => ⟨fun a => match a with
      | ⟨0, _⟩ => Nat.le_trans (Nat.le_of_eq (Nat.mul_one _)) (Nat.succ_le_succ (h _))
      | ⟨1, _⟩ => Nat.le_of_eq (Nat.one_mul 2048)
      | ⟨2, _⟩ => Nat.le_trans (Nat.mul_le_mul_right 256 (Nat.succ_le_succ (tile_le _ i))) (show Nat.succ 27 * 256 ≤ 7168 from by decide),
      .inl rfl⟩,
    fun i => ⟨fun a => match a with
      | ⟨0, _⟩ => Nat.le_trans (Nat.le_of_eq (Nat.mul_one _)) (Nat.succ_le_succ (h _))
      | ⟨1, _⟩ => Nat.le_trans (Nat.mul_le_mul_right 256 (Nat.succ_le_succ (tile_le _ i))) (show Nat.succ 27 * 256 ≤ 7168 from by decide)
      | ⟨2, _⟩ => Nat.le_of_eq (Nat.one_mul 2048),
      .inl rfl⟩⟩

end Cert.ExpertsIdeal.Body

end
-- ==== Proof.ExpertsIdeal.Sum.lean ====
/- The experts' call, point by point: the blocks' entries, and what the output's staging buffer and the scratch hold after
   every point. After an item's 28 tiles its 1072 rows hold their expert's SwiGLU, or zeros. -/
module

public import proofs.«01_k».proof.Proof.ExpertsIdeal.Point
public import proofs.«01_k».proof.Proof.ExpertsIdeal.Tables

@[expose] public section

noncomputable section

open Idealize.ShloMosaic Idealize.ShloMosaic.TcCoe Idealize.SL.Sem
open scoped BigOperators

namespace Cert.ExpertsIdeal.Sum

open Cert.ExpertsIdeal Cert.ExpertsIdeal.Gen Cert.ExpertsIdeal.Body
open Cert.Experts.Layer (unpack unit expert entry)

variable (m : (ℓ : Loc nD τ sig) → Buf (Elt Ideal) ℓ) (c : Dev nD)

abbrev aE (j : Fin 23) : BitVec 32 := m ((c : Thread nD τ).loc main_arg0) (Idealize.ShloMosaic.ValueIdx.ix1 j : S23.Idx)
abbrev aN (j : Fin 23) : BitVec 32 := m ((c : Thread nD τ).loc main_arg1) (Idealize.ShloMosaic.ValueIdx.ix1 j : S23.Idx)
abbrev aX (r : Fin 24656) (k : Fin 1024) : BitVec 32 := (m ((c : Thread nD τ).loc main_arg2) : S24656x1024.Idx → BitVec 32) (ix2 r k)
abbrev aWg (e : Fin 8) (k : Fin 2048) (f : Fin 7168) : EReal := (m ((c : Thread nD τ).loc main_arg3) : S8x2048x7168.Idx → EReal) (ix3 e k f)
abbrev aWu (e : Fin 8) (k : Fin 2048) (f : Fin 7168) : EReal := (m ((c : Thread nD τ).loc main_arg4) : S8x2048x7168.Idx → EReal) (ix3 e k f)
abbrev aWd (e : Fin 8) (f : Fin 7168) (d : Fin 2048) : EReal := (m ((c : Thread nD τ).loc main_arg5) : S8x7168x2048.Idx → EReal) (ix3 e f d)

variable (hO : Ok m)

theorem lt644 (t : Fin (cfgM m hO).N) : t.val < 644 := Nat.lt_of_lt_of_eq t.isLt N_0

/-- The item of a point. -/
abbrev item (n : ℕ) (h : n < 644) : Fin 23 := ⟨n / 28, by omega⟩

theorem cond2_iff (v : BitVec 32) : k0_cond2 v = 1#1 ↔ 0 < v.toInt := by
  have key : ∀ b : BitVec 1, Scalar.cmpi .ne (Scalar.extui b : BitVec 32) 0#32 = 1#1 ↔ b = 1#1 := by decide
  refine (key (Scalar.cmpi .sgt v 0#32)).trans ?_
  exact IntOp.cmpi_sgt

/-- A point's item has rows exactly if its count is positive. -/
theorem live_iff (t : Fin (cfgM m hO).N) : liveAt m hO c t ↔ 0 < (aN m c (item t.val (lt644 m hO t))).toInt := by
  unfold liveAt live
  rw [count_eq m hO c t (item t.val (lt644 m hO t)) rfl, cond2_iff]

theorem coord0 (t : Fin (cfgM m hO).N) : (grid0.coords t 0).val = t.val / 28 := by
  have e0 : (grid0.coords t 0).val = t.val / 28 % 23 := Pipeline.Grid.coords_val (G := grid0) t 0 (by decide) rfl
  have := lt644 m hO t
  omega
theorem coord1 (t : Fin (cfgM m hO).N) : (grid0.coords t 1).val = t.val % 28 := by
  have e0 : (grid0.coords t 1).val = t.val / 1 % 28 := Pipeline.Grid.coords_val (G := grid0) t 1 (by decide) rfl
  omega

/-- The entries of the two tables that the blocks' indices read. -/
theorem at0 (t : Fin (cfgM m hO).N) : ((tbl m).at 0 (Rect.unit (s := S23) (k0_off1 (grid0.coords t)) S1.size (k0_off1_inb (grid0.coords t))) numel1_S1 : BitVec 32)
    = aE m c (item t.val (lt644 m hO t)) := by
  obtain rfl : c = 0 := Subsingleton.elim _ _
  show m (((0 : Dev nD) : Thread nD τ).loc main_arg0) _ = _
  congr 1
  funext a
  apply Fin.ext
  fin_cases a
  refine (show k0_off1 (grid0.coords t) 0 + 1 * 0 = t.val / 28 from ?_)
  rw [congrFun (k0_off1_eq (grid0.coords t)) 0]
  exact coord0 m hO t
theorem at1 (t : Fin (cfgM m hO).N) : ((tbl m).at 1 (Rect.unit (s := S23) (k0_off1 (grid0.coords t)) S1.size (k0_off1_inb (grid0.coords t))) numel1_S1 : BitVec 32)
    = aN m c (item t.val (lt644 m hO t)) := by
  obtain rfl : c = 0 := Subsingleton.elim _ _
  show m (((0 : Dev nD) : Thread nD τ).loc main_arg1) _ = _
  congr 1
  funext a
  apply Fin.ext
  fin_cases a
  refine (show k0_off1 (grid0.coords t) 0 + 1 * 0 = t.val / 28 from ?_)
  rw [congrFun (k0_off1_eq (grid0.coords t)) 0]
  exact coord0 m hO t

/-- At a point of an item with rows the blocks are of the point's own tile. -/
theorem sel_eq (t : Fin (cfgM m hO).N) (hv : liveAt m hO c t) :
    (Scalar.select (Scalar.cmpi .sgt ((tbl m).at 1 (Rect.unit (s := S23) (k0_off1 (grid0.coords t)) S1.size (k0_off1_inb (grid0.coords t))) numel1_S1 : BitVec 32) 0#32)
      (BitVec.ofNat 32 (grid0.coords t 1).val) 27#32).toNat = t.val % 28 := by
  rw [at1 m c hO t]
  have h : Scalar.cmpi .sgt (aN m c (item t.val (lt644 m hO t))) 0#32 = 1 := IntOp.cmpi_sgt.mpr ((live_iff m c hO t).mp hv)
  unfold Scalar.select
  rw [if_pos h, BitVec.toNat_ofNat, coord1 m hO t]
  omega

variable (h7 : ∀ j : S23.Idx, (m (((0 : Dev nD) : Thread nD τ).loc main_arg0) j : BitVec 32).toNat ≤ 7)

include h7 in
theorem at0_expert (t : Fin (cfgM m hO).N) : ((tbl m).at 0 (Rect.unit (s := S23) (k0_off1 (grid0.coords t)) S1.size (k0_off1_inb (grid0.coords t))) numel1_S1 : BitVec 32).toNat
    = (expert (aE m c (item t.val (lt644 m hO t)))).val := by
  rw [at0 m c hO t]
  obtain rfl : c = 0 := Subsingleton.elim _ _
  exact (Nat.mod_eq_of_lt (Nat.lt_succ_of_le (h7 (Idealize.ShloMosaic.ValueIdx.ix1 (item t.val (lt644 m hO t)))))).symm

/-- The array's row that a block's row is, and the hidden unit that a tile's is. -/
abbrev row (n : ℕ) (h : n < 644) (r : Fin 1072) : Fin 24656 := ⟨1072 * (n / 28) + r.val, by have := r.isLt; omega⟩
abbrev hid (n : ℕ) (q : Fin 256) : Fin 7168 := ⟨256 * (n % 28) + q.val, by have := q.isLt; omega⟩

/-- The blocks of a point, of their shapes. -/
def b0 (t : Fin (cfgM m hO).N) : Vec Ideal S1072x1024 .i32 := iblk m hO c 0 t
def b1 (t : Fin (cfgM m hO).N) : Vec Ideal S1x2048x256 .f32 := iblk m hO c 1 t
def b2 (t : Fin (cfgM m hO).N) : Vec Ideal S1x2048x256 .f32 := iblk m hO c 2 t
def b3 (t : Fin (cfgM m hO).N) : Vec Ideal S1x256x2048 .f32 := iblk m hO c 3 t

theorem blk0 (t : Fin (cfgM m hO).N) (r : Fin 1072) (k : Fin 1024) :
    b0 m c hO t (ix2 r k) = aX m c (row t.val (lt644 m hO t) r) k := by
  have h := lt644 m hO t
  unfold b0 iblk
  refine (View.read_apply ..).trans ?_
  show V m c main_arg2 _ = _
  unfold V aX
  congr 1
  funext a
  apply Fin.ext
  match a with
  | ⟨0, _⟩ => show (BitVec.ofNat 32 (grid0.coords t 0).val).toNat * 1072 + 1 * r.val = 1072 * (t.val / 28) + r.val
              rw [coord0 m hO t, BitVec.toNat_ofNat]; omega
  | ⟨1, _⟩ => show 0 * 1024 + 1 * k.val = k.val; omega

include h7 in
theorem blk1 (t : Fin (cfgM m hO).N) (hv : liveAt m hO c t) (k : Fin 2048) (q : Fin 256) :
    (b1 m c hO t) (ix3 0 k q) = aWg m c (expert (aE m c (item t.val (lt644 m hO t)))) k (hid t.val q) := by
  unfold b1 iblk
  refine (View.read_apply ..).trans ?_
  show V m c main_arg3 _ = _
  unfold V aWg
  congr 1
  funext a
  apply Fin.ext
  match a with
  | ⟨0, _⟩ => refine (congrArg (fun n => n * 1 + 1 * 0) (at0_expert m c hO h7 t)).trans (Nat.mul_one _)
  | ⟨1, _⟩ => show 0 * 2048 + 1 * k.val = k.val; omega
  | ⟨2, _⟩ => refine (congrArg (fun n => n * 256 + 1 * q.val) (sel_eq m c hO t hv)).trans ?_; show _ * 256 + 1 * q.val = 256 * _ + q.val; omega

include h7 in
theorem blk2 (t : Fin (cfgM m hO).N) (hv : liveAt m hO c t) (k : Fin 2048) (q : Fin 256) :
    b2 m c hO t (ix3 0 k q) = aWu m c (expert (aE m c (item t.val (lt644 m hO t)))) k (hid t.val q) := by
  unfold b2 iblk
  refine (View.read_apply ..).trans ?_
  show V m c main_arg4 _ = _
  unfold V aWu
  congr 1
  funext a
  apply Fin.ext
  match a with
  | ⟨0, _⟩ => refine (congrArg (fun n => n * 1 + 1 * 0) (at0_expert m c hO h7 t)).trans (Nat.mul_one _)
  | ⟨1, _⟩ => show 0 * 2048 + 1 * k.val = k.val; omega
  | ⟨2, _⟩ => refine (congrArg (fun n => n * 256 + 1 * q.val) (sel_eq m c hO t hv)).trans ?_; show _ * 256 + 1 * q.val = 256 * _ + q.val; omega

include h7 in
theorem blk3 (t : Fin (cfgM m hO).N) (hv : liveAt m hO c t) (q : Fin 256) (d : Fin 2048) :
    b3 m c hO t (ix3 0 q d) = aWd m c (expert (aE m c (item t.val (lt644 m hO t)))) (hid t.val q) d := by
  unfold b3 iblk
  refine (View.read_apply ..).trans ?_
  show V m c main_arg5 _ = _
  unfold V aWd
  congr 1
  funext a
  apply Fin.ext
  match a with
  | ⟨0, _⟩ => refine (congrArg (fun n => n * 1 + 1 * 0) (at0_expert m c hO h7 t)).trans (Nat.mul_one _)
  | ⟨1, _⟩ => refine (congrArg (fun n => n * 256 + 1 * q.val) (sel_eq m c hO t hv)).trans ?_; show _ * 256 + 1 * q.val = 256 * _ + q.val; omega
  | ⟨2, _⟩ => show 0 * 2048 + 1 * d.val = d.val; omega

/-- The shares of the hidden units in entry `(r, d)` of item `j`. -/
abbrev tm (j : Fin 23) (r : Fin 24656) (d : Fin 2048) : Fin 7168 → EReal :=
  unit (aX m c r) (aWg m c (expert (aE m c j))) (aWu m c (expert (aE m c j))) (aWd m c (expert (aE m c j))) d

include h7 in
/-- A point's tile of products, from the item's rows. -/
theorem tile_at (t : Fin (cfgM m hO).N) (hv : liveAt m hO c t) (xs : Vec Ideal S1072x2048 .bf16)
    (hs : ∀ r k, xs (ix2 r k) = unpack (aX m c (row t.val (lt644 m hO t) r)) k) (r : Fin 1072) (d : Fin 2048) :
    (∑ q : Fin 256, Swiglu.act (fun k => xs (ix2 r k)) (fun k => (b1 m c hO t) (ix3 0 k q))
        (fun k => b2 m c hO t (ix3 0 k q)) * (b3 m c hO t) (ix3 0 q d))
      = Swiglu.tile 256 (tm m c (item t.val (lt644 m hO t)) (row t.val (lt644 m hO t) r) d) (t.val % 28) := by
  refine Swiglu.tile_eq 256 _ _ (by omega) _ fun q h => ?_
  simp only [blk1 m c hO h7 t hv, blk2 m c hO h7 t hv, blk3 m c hO h7 t hv, hs]
  rfl

include h7 in
/-- What the staging buffer and the scratch hold after point `n` of an item with rows. -/
theorem state_live (n : ℕ) : ∀ h : n < (cfgM m hO).N, liveAt m hO c ⟨n, h⟩ →
    (∀ r k, (state m hO c n h).2 (ix2 r k) = unpack (aX m c (row n (lt644 m hO ⟨n, h⟩) r)) k)
    ∧ ∀ r d, (state m hO c n h).1 (ix2 r d)
        = ∑ j ∈ Finset.range (n % 28 + 1), Swiglu.tile 256 (tm m c (item n (lt644 m hO ⟨n, h⟩)) (row n (lt644 m hO ⟨n, h⟩) r) d) j := by
  have first : ∀ t : Fin (cfgM m hO).N, t.val % 28 = 0 → liveAt m hO c t →
      (∀ r k, (state m hO c t.val t.isLt).2 (ix2 r k) = unpack (aX m c (row t.val (lt644 m hO t) r)) k)
      ∧ ∀ r d, (state m hO c t.val t.isLt).1 (ix2 r d)
          = ∑ j ∈ Finset.range (t.val % 28 + 1), Swiglu.tile 256 (tm m c (item t.val (lt644 m hO t)) (row t.val (lt644 m hO t) r) d) j := by
    intro t h0 hv
    have hs : ∀ r k, Point.rows (b0 m c hO t) (ix2 r k) = unpack (aX m c (row t.val (lt644 m hO t) r)) k := by
      intro r k
      rw [Point.rows_apply]
      simp only [blk0]
    rw [state_A m hO c t h0 hv]
    dsimp only
    rw [Point.soutA_eq, Point.outA_eq]
    refine ⟨hs, fun r d => ?_⟩
    refine (Point.tile_apply (k0_pay1 (F := Ideal)) (Point.rows (b0 m c hO t)) (b1 m c hO t) (b2 m c hO t) (b3 m c hO t) r d).trans ?_
    rw [Point.zeros_apply, zero_add, tile_at m c hO h7 t hv _ hs, h0, Finset.sum_range_one]
  induction n with
  | zero => exact fun h hv => first ⟨0, h⟩ rfl hv
  | succ n ih =>
    intro h hv
    by_cases h0 : (n + 1) % 28 = 0
    · exact first ⟨n + 1, h⟩ h0 hv
    · have hvp := (live_pred m hO c ⟨n + 1, h⟩ (Nat.succ_ne_zero n) h0).mp hv
      obtain ⟨ih2, ih1⟩ := ih (Nat.lt_of_succ_lt h) hvp
      have h644 := lt644 m hO ⟨n + 1, h⟩
      have hq : n / 28 = (n + 1) / 28 := by omega
      have hr : ∀ r, row n (lt644 m hO ⟨n, Nat.lt_of_succ_lt h⟩) r = row (n + 1) h644 r := fun r => by
        apply Fin.ext; show 1072 * (n / 28) + r.val = 1072 * ((n + 1) / 28) + r.val
        rw [hq]
      have hi : item n (lt644 m hO ⟨n, Nat.lt_of_succ_lt h⟩) = item (n + 1) h644 := Fin.ext hq
      simp only [hr, hi] at ih1 ih2
      rw [state_B m hO c ⟨n + 1, h⟩ h0 hv]
      dsimp only
      rw [Point.outB_eq]
      refine ⟨ih2, fun r d => ?_⟩
      refine (Point.tile_apply _ _ (b1 m c hO ⟨n + 1, h⟩) (b2 m c hO ⟨n + 1, h⟩) (b3 m c hO ⟨n + 1, h⟩) r d).trans ?_
      refine (congrArg₂ (· + ·) (ih1 r d) (tile_at m c hO h7 ⟨n + 1, h⟩ hv _ ih2 r d)).trans ?_
      have e : (n + 1) % 28 = n % 28 + 1 := by omega
      show _ + Swiglu.tile 256 _ ((n + 1) % 28) = _
      rw [e, Finset.sum_range_succ _ (n % 28 + 1)]

/-- What the staging buffer holds after point `n` of an item without rows. -/
theorem state_idle (n : ℕ) : ∀ h : n < (cfgM m hO).N, ¬liveAt m hO c ⟨n, h⟩ → ∀ r d, (state m hO c n h).1 (ix2 r d) = 0 := by
  have first : ∀ t : Fin (cfgM m hO).N, t.val % 28 = 0 → ¬liveAt m hO c t → ∀ r d, (state m hO c t.val t.isLt).1 (ix2 r d) = 0 := by
    intro t h0 hv r d
    rw [state_Z m hO c t h0 hv, Point.outZ_eq, Point.zeros_apply]
  induction n with
  | zero => exact fun h hv => first ⟨0, h⟩ rfl hv
  | succ n ih =>
    intro h hv
    by_cases h0 : (n + 1) % 28 = 0
    · exact first ⟨n + 1, h⟩ h0 hv
    · have hvp : ¬liveAt m hO c ⟨n, Nat.lt_of_succ_lt h⟩ := fun hp => hv ((live_pred m hO c ⟨n + 1, h⟩ (Nat.succ_ne_zero n) h0).mpr hp)
      intro r d
      rw [state_N m hO c ⟨n + 1, h⟩ h0 hv]
      exact ih (Nat.lt_of_succ_lt h) hvp r d

end Cert.ExpertsIdeal.Sum

end
-- ==== Proof.ExpertsIdeal.Value.lean ====
/- The experts' call, run: the result array. Each item's rows hold their expert's SwiGLU, or zeros where the item has no rows. -/
module

public import proofs.«01_k».proof.Proof.ExpertsIdeal.Sum

@[expose] public section

noncomputable section

open Idealize.ShloMosaic Idealize.ShloMosaic.TcCoe Idealize.SL.Sem
open scoped BigOperators

namespace Cert.ExpertsIdeal.Value

open Cert.ExpertsIdeal Cert.ExpertsIdeal.Gen Cert.ExpertsIdeal.Body Cert.ExpertsIdeal.Sum
open Cert.Experts.Layer (unpack unit expert entry)

variable (m : (ℓ : Loc nD τ sig) → Buf (Elt Ideal) ℓ) (ρ : Dev nD → PrngReg) (hO : Ok m)
variable (h7 : ∀ j : S23.Idx, (m (((0 : Dev nD) : Thread nD τ).loc main_arg0) j : BitVec 32).toNat ≤ 7)

/-- The item that holds a row of the array. -/
abbrev itemOf (r : Fin 24656) : Fin 23 := ⟨r.val / 1072, by have := r.isLt; omega⟩

/-- What the result array ends holding. -/
def G (c : Dev nD) : S24656x2048.Idx → EReal := fun i =>
  entry (aE m c (itemOf (i 0))) (aN m c (itemOf (i 0))) (aX m c (i 0)) (aWg m c) (aWu m c) (aWd m c) (i 1)

/-- The staging buffer after an item's last tile. -/
theorem last (h7 : ∀ j : S23.Idx, (m (((0 : Dev nD) : Thread nD τ).loc main_arg0) j : BitVec 32).toNat ≤ 7)
    (c : Dev nD) (t : Fin (cfgM m hO).N) (ht : t.val % 28 = 27) (r : Fin 1072) (d : Fin 2048) :
    (state m hO c t.val t.isLt).1 (ix2 r d)
      = entry (aE m c (item t.val (lt644 m hO t))) (aN m c (item t.val (lt644 m hO t))) (aX m c (row t.val (lt644 m hO t) r)) (aWg m c) (aWu m c) (aWd m c) d := by
  unfold entry
  by_cases hv : liveAt m hO c t
  · rw [if_pos ((live_iff m c hO t).mp hv), (state_live m c hO h7 t.val t.isLt hv).2 r d, ht, Swiglu.sum_tiles 256 28 rfl]
  · rw [if_neg (fun h => hv ((live_iff m c hO t).mpr h)), state_idle m c hO t.val t.isLt hv r d]

theorem index0 (t : Fin (cfgM m hO).N) : ((cfgM m hO).win 4).index t (0 : Fin 2) = t.val / 28 := by
  have h := lt644 m hO t
  show (BitVec.ofNat 32 (grid0.coords t 0).val).toNat = _
  rw [coord0 m hO t, BitVec.toNat_ofNat]; omega
theorem index1 (t : Fin (cfgM m hO).N) : ((cfgM m hO).win 4).index t (1 : Fin 2) = 0 := rfl

include h7 in
/-- What an item's last point writes back is the item's block of the result. -/
theorem flushed (c : Dev nD) (t : Fin (cfgM m hO).N) (hf : ((cfgM m hO).win 4).flush t = true) :
    (dats m hO 0 c).flushed 4 t = (((cfgM m hO).win 4).blk t).view.read (Elt Ideal) (G m c) := by
  show ((cfgM m hO).win 4).cut (grid0.coords t) ((dats m hO 0 c).after 4 t) = _
  rw [after0_4]
  have hm : t.val % 28 = 27 := (flush0_4 (adm m hO) t).mp hf
  funext (y : S1072x2048.Idx)
  have hy0 : (y 0).val < 1072 := (y 0).isLt
  have hy1 : (y 1).val < 2048 := (y 1).isLt
  obtain ⟨z, hz⟩ : ∃ z : S24656x2048.Idx, z = (((cfgM m hO).win 4).blk t).view.emb y := ⟨_, rfl⟩
  have hb0 : (z 0).val = ((cfgM m hO).win 4).index t (0 : Fin 2) * 1072 + 1 * (y 0).val := by rw [hz]; rfl
  have hb1 : (z 1).val = ((cfgM m hO).win 4).index t (1 : Fin 2) * 2048 + 1 * (y 1).val := by rw [hz]; rfl
  rw [index0] at hb0
  rw [index1] at hb1
  have ht := lt644 m hO t
  have hy : ((cfgM m hO).win 4).xinj (grid0.coords t) y = (ix2 (⟨(y 0).val, hy0⟩ : Fin 1072) (⟨(y 1).val, hy1⟩ : Fin 2048) : S1072x2048.Idx) := by
    funext a; apply Fin.ext
    match a with
    | ⟨0, _⟩ => rfl
    | ⟨1, _⟩ => rfl
  have e0 : row t.val ht ⟨(y 0).val, hy0⟩ = z 0 := by
    apply Fin.ext; rw [hb0]; show 1072 * (t.val / 28) + (y 0).val = _; omega
  have e1 : (⟨(y 1).val, hy1⟩ : Fin 2048) = z 1 := by
    apply Fin.ext; rw [hb1]; show (y 1).val = _; omega
  have ei : item t.val ht = itemOf (row t.val ht ⟨(y 0).val, hy0⟩) := by
    apply Fin.ext; show t.val / 28 = (1072 * (t.val / 28) + (y 0).val) / 1072; omega
  show (state m hO c t.val t.isLt).1 (((cfgM m hO).win 4).xinj (grid0.coords t) y) = G m c ((((cfgM m hO).win 4).blk t).view.emb y)
  refine Eq.trans ?_ (congrArg (G m c) hz)
  refine (congrArg (state m hO c t.val t.isLt).1 hy).trans ((last m hO h7 c t hm _ _).trans ?_)
  unfold G
  rw [← e0, ← e1, ← ei]

/-- The blocks written back cover the array. -/
theorem covered (i : S24656x2048.Idx) : ∃ t : Fin (cfgM m hO).N, ((cfgM m hO).win 4).flush t = true ∧ i ∈ (((cfgM m hO).win 4).blk t).view.set := by
  have hi0 : (i 0).val < 24656 := (i 0).isLt
  have hi1 : (i 1).val < 2048 := (i 1).isLt
  have hN : 28 * ((i 0).val / 1072) + 27 < (cfgM m hO).N := Nat.lt_of_lt_of_eq (show _ < 644 by omega) N_0.symm
  refine ⟨⟨28 * ((i 0).val / 1072) + 27, hN⟩, (flush0_4 (adm m hO) _).mpr (by show (28 * ((i 0).val / 1072) + 27) % 28 = 27; omega), ?_⟩
  refine (iff_of_eq (congrArg (i ∈ ·) (View.set_slice_whole main_v0 (((cfgM m hO).win 4).rect ⟨28 * ((i 0).val / 1072) + 27, hN⟩)))).mpr
    (Rect.mem_set_unit.mpr fun a => ?_)
  match a with
  | ⟨0, _⟩ =>
    show ((cfgM m hO).win 4).index ⟨28 * ((i 0).val / 1072) + 27, hN⟩ (0 : Fin 2) * 1072 ≤ (i 0).val
      ∧ (i 0).val < ((cfgM m hO).win 4).index ⟨28 * ((i 0).val / 1072) + 27, hN⟩ (0 : Fin 2) * 1072 + 1072
    rw [index0]
    show (28 * ((i 0).val / 1072) + 27) / 28 * 1072 ≤ _ ∧ _ < (28 * ((i 0).val / 1072) + 27) / 28 * 1072 + 1072
    omega
  | ⟨1, _⟩ => show 0 * 2048 ≤ (i 1).val ∧ (i 1).val < 0 * 2048 + 2048; omega

include h7 in
theorem final (c : Dev nD) : (dats m hO 0 c).arrAt 4 (cfgM m hO).N = G m c :=
  (dats m hO 0 c).arrAt_eq_of_cover 4 _ (fun t hf => flushed m hO h7 c t hf) (covered m hO)

include hO h7 in
/-- The run: the result array as said, the arguments unchanged. -/
theorem run : θ_run defs (onTc (τ := τ) (main (F := Ideal))) ⟨m, fun _ => 0, ρ⟩ fun r => ∀ c : Dev nD,
      r.2.mem ((c : Thread nD τ).loc main_v0) = G m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨((h c).1 4).trans (final m hO h7 c),
      ((h c).2 main_arg0 (by decide : main_arg0 ∈ Pipeline.restRefs sig spec0)).trans (V_main_arg0 m c),
      ((h c).2 main_arg1 (by decide : main_arg1 ∈ Pipeline.restRefs sig spec0)).trans (V_main_arg1 m c),
      ((h c).1 0).trans (((dats m hO 0 c).arrAt_in 0 rfl _).trans ((A_eq m hO c 0).trans (V_main_arg2 m c))),
      ((h c).1 1).trans (((dats m hO 0 c).arrAt_in 1 rfl _).trans ((A_eq m hO c 1).trans (V_main_arg3 m c))),
      ((h c).1 2).trans (((dats m hO 0 c).arrAt_in 2 rfl _).trans ((A_eq m hO c 2).trans (V_main_arg4 m c))),
      ((h c).1 3).trans (((dats m hO 0 c).arrAt_in 3 rfl _).trans ((A_eq m hO c 3).trans (V_main_arg5 m c)))⟩)
    (run_main m ρ hO)

end Cert.ExpertsIdeal.Value

end
-- ==== Proof.Experts.Claims.lean ====
/- The experts' claims: the frames, and the equality of the kernel's result with the reference's. -/
module

public import proofs.«01_k».proof.Defs
public import proofs.«01_k».proof.Proof.Experts.Launch
public import proofs.«01_k».proof.Proof.Experts.Tables
public import proofs.«01_k».proof.Proof.Experts.Range
public import proofs.«01_k».proof.Proof.Experts.Reference
public import proofs.«01_k».proof.Proof.ExpertsIdeal.Value

@[expose] public section

noncomputable section

open Idealize.ShloMosaic Idealize.ShloMosaic.TcCoe Idealize.SL.Sem

namespace Cert.ExpertsClaims

/-- The table names experts, so every weight tile it asks for lies in the weights. -/
theorem frame : Cert.quiescent_Experts := fun m ρ h =>
  Cert.Experts.Body.frame m ρ (Cert.Experts.Body.ok_of_le7 m (Cert.ExpertsRange.le7 _ _ _ _ _ _ (h 0)))

theorem frame_ideal : Cert.quiescent_ExpertsIdeal := fun m ρ h =>
  Cert.ExpertsIdeal.Body.frame m ρ (Cert.ExpertsIdeal.Body.ok_of_le7 m (Cert.ExpertsRange.le7 _ _ _ _ _ _ (h 0)))

/-- The reference has no semaphore and writes none of its arguments. -/
theorem frame_reference : Cert.quiescent_ExpertsReferenceIdeal := fun m ρ _ =>
  (θ_run Cert.ExpertsReferenceIdeal.defs _ _).mono (fun r h =>
      ⟨fun c => (h c).2, Idealize.ShloMosaic.sem_eq_zero_of_no_sems (by decide) r.2⟩)
    (Cert.ExpertsReferenceIdeal.Value.run (F := Ideal) m ρ)

open Cert.ExpertsReferenceIdeal in
/-- The reference's result, of a launch memory that holds the six arguments. -/
theorem same (V : Valuation τ sig (Elt Ideal)) (E N : S23.Idx → BitVec 32) (X : S24656x1024.Idx → BitVec 32)
    (Wg Wu : S8x2048x7168.Idx → EReal) (Wd : S8x7168x2048.Idx → EReal) (hE : ∀ j, (E j).toNat ≤ 7)
    (h0 : V (Proc.devRef .tc main_arg0) = E) (h1 : V (Proc.devRef .tc main_arg1) = N) (h2 : V (Proc.devRef .tc main_arg2) = X)
    (h3 : V (Proc.devRef .tc main_arg3) = Wg) (h4 : V (Proc.devRef .tc main_arg4) = Wu) (h5 : V (Proc.devRef .tc main_arg5) = Wd)
    (r : Fin 24656) (d : Fin 2048) :
    Value.res_main_v143 (F := Ideal) V (ix2 r d)
      = Cert.Experts.Layer.entry (E (Idealize.ShloMosaic.ValueIdx.ix1 (Sum.itemOf r))) (N (Idealize.ShloMosaic.ValueIdx.ix1 (Sum.itemOf r)))
          (fun k => X (ix2 r k)) (fun e k f => Wg (ix3 e k f)) (fun e k f => Wu (ix3 e k f)) (fun e f d => Wd (ix3 e f d)) d := by
  refine (congrFun (Read.val_main_v143_eq (F := Ideal) V) (ix2 r d)).trans ?_
  rw [h0, h1, h2, h3, h4, h5]
  exact Sum.result E N X Wg Wu Wd hE r d

/-- Both programs' results are `entry` of the same six arguments. -/
theorem algebraic : Cert.algebraic_ExpertsIdeal_ExpertsReferenceIdeal := by
  intro m ρ m' ρ' hpre hagree
  have h7 := Cert.ExpertsRange.le7 _ _ _ _ _ _ (hpre 0)
  refine ⟨fun c => Cert.ExpertsIdeal.Value.G m c, Cert.ExpertsIdeal.Value.run m ρ (Cert.ExpertsIdeal.Body.ok_of_le7 m h7) h7, ?_⟩
  refine (θ_run Cert.ExpertsReferenceIdeal.defs _ _).mono (fun _ h c => ⟨(h c).1.trans ?_, (h c).2⟩)
    (Cert.ExpertsReferenceIdeal.Value.run (F := Ideal) m' ρ')
  obtain ⟨h0, h1, h2, h3, h4, h5⟩ := hagree c
  funext i
  rw [eq_ix2 i]
  exact same _ _ _ _ _ _ _ (Cert.ExpertsRange.le7 _ _ _ _ _ _ (hpre c)) h0 h1 h2 h3 h4 h5 (i 0) (i 1)

end Cert.ExpertsClaims

end
-- ==== Proof.Ffn.Point.lean ====
/- One grid point of the dense SwiGLU kernel: what its body leaves in the output's staging buffer and in the scratch that
   holds the normalised rows, as values of the blocks it reads. -/
module

public import proofs.«01_k».proof.Proof.Gen.FfnIdeal.Value
public import proofs.«01_k».proof.Proof.Swiglu
public import Idealize.ShloMosaic.Lib.Pipeline.Value
public import Idealize.ShloMosaic.Lib.Tactic
public import Idealize.ShloMosaic.Lib.Pointwise

@[expose] public section

noncomputable section

open Idealize.ShloMosaic Idealize.ShloMosaic.TcCoe Idealize.SL.Sem

namespace Cert.FfnIdeal.Point

open Cert.FfnIdeal Cert.FfnIdeal.Gen

variable {F : FTy → Type} [FloatOps F]

theorem hz : (![0, 0] : Fin 2 → Nat) = fun _ => 0 := funext fun a => by fin_cases a <;> rfl

variable (c : Dev nD) (i : grid0.Coords) (a2 : Memref sig .tc .vmem S1024x2048 .f32) (h2 : a2.IsWhole)
  (a3 : Memref sig .tc .vmem S1x2048 .f32) (h3 : a3.IsWhole) (a4 : Memref sig .tc .vmem S2048x512 .f32) (h4 : a4.IsWhole)
  (a5 : Memref sig .tc .vmem S2048x512 .f32) (h5 : a5.IsWhole) (a6 : Memref sig .tc .vmem S512x2048 .f32) (h6 : a6.IsWhole)
  (a7 : Memref sig .tc .vmem S1024x2048 .f32) (h7 : a7.IsWhole) (a8 : Memref sig .tc .vmem S1024x2048 .bf16) (h8 : a8.IsWhole)
  (x0 : Vec F S1024x2048 .f32) (x1 : Vec F S1x2048 .f32) (x2 x3 : Vec F S2048x512 .f32) (x4 : Vec F S512x2048 .f32)

/-- At a block's first point the scratch is left at the block's rows, normalised. -/
theorem sout_A (hc : cond0_0 i) :
    sout0_A_0 c i a2 h2 a3 h3 a4 h4 a5 h5 a6 h6 a7 h7 a8 h8 hc x0 x1 x2 x3 x4 = k0_pay1 x0 x1 := by
  unfold sout0_A_0
  rw [View.read_writes_eq_canon _ _ _ (scover0_A_0 c i a2 h2 a3 h3 a4 h4 a5 h5 a6 h6 a7 h7 a8 h8 hc x0 x1 x2 x3 x4)]
  unfold kernelRun0_A
  dsimp only
  sl_unfold_words
  rw [View.canon_cons_unit_zero (S := S1024x2048) hz]
  simp only [View.readAt_eq_ld, h2.read_unread, h3.read_unread, View.ld_unit_zero (S := S1024x2048) hz,
    View.ld_unit_zero (S := S1x2048) hz]

/-- At a block's first point the output is left at the block's rows and the first tile's share. -/
theorem out_A (hc : cond0_0 i) :
    out0_A_5 c i a2 h2 a3 h3 a4 h4 a5 h5 a6 h6 a7 h7 a8 h8 hc x0 x1 x2 x3 x4 = k0_pay2 x0 (k0_pay1 x0 x1) x2 x3 x4 := by
  unfold out0_A_5
  rw [View.read_writes_eq_canon _ _ _ (cover0_A_5 c i a2 h2 a3 h3 a4 h4 a5 h5 a6 h6 a7 h7 a8 h8 hc x0 x1 x2 x3 x4)]
  unfold kernelRun0_A
  dsimp only
  sl_unfold_words
  rw [View.canon_cons_unit_zero (S := S1024x2048) hz]
  simp only [View.readAt_eq_ld, h2.read_unread, h3.read_unread, h4.read_unread, h5.read_unread, h6.read_unread,
    View.readCov_unit_zero (S := S1024x2048) _ hz, View.ld_unit_zero (S := S1024x2048) hz,
    View.ld_unit_zero (S := S1x2048) hz, View.ld_unit_zero (S := S2048x512) hz, View.ld_unit_zero (S := S512x2048) hz]

/-- At a later point the output gains its tile's share. -/
theorem out_B (hc : ¬cond0_0 i) (xo : Vec F S1024x2048 .f32) (xs : Vec F S1024x2048 .bf16) :
    out0_B_5 c i a2 h2 a3 h3 a4 h4 a5 h5 a6 h6 a7 h7 a8 h8 hc x0 x1 x2 x3 x4 xo xs = k0_pay2 xo xs x2 x3 x4 := by
  unfold out0_B_5
  rw [View.read_writes_eq_canon _ _ _ (cover0_B_5 c i a2 h2 a3 h3 a4 h4 a5 h5 a6 h6 a7 h7 a8 h8 hc x0 x1 x2 x3 x4 xo xs)]
  unfold kernelRun0_B
  dsimp only
  sl_unfold_words
  rw [View.canon_cons_unit_zero (S := S1024x2048) hz]
  simp only [View.readAt_eq_ld, h4.read_unread, h5.read_unread, h6.read_unread, h7.read_unread, h8.read_unread,
    View.ld_unit_zero (S := S1024x2048) hz, View.ld_unit_zero (S := S2048x512) hz, View.ld_unit_zero (S := S512x2048) hz]

/-- At a later point the scratch is as it was. -/
theorem sout_B (hc : ¬cond0_0 i) (xo : Vec F S1024x2048 .f32) (xs : Vec F S1024x2048 .bf16) :
    sout0_B_0 c i a2 h2 a3 h3 a4 h4 a5 h5 a6 h6 a7 h7 a8 h8 hc x0 x1 x2 x3 x4 xo xs = xs := by
  unfold sout0_B_0
  rfl

/-! ## The two values, element by element at the extended reals -/

variable (x0 : Vec Ideal S1024x2048 .f32) (x1 : Vec Ideal S1x2048 .f32) (x2 x3 : Vec Ideal S2048x512 .f32) (x4 : Vec Ideal S512x2048 .f32)

theorem norm_apply (r : Fin 1024) (k : Fin 2048) :
    k0_pay1 x0 x1 (ix2 r k) = Swiglu.norm (fun k => x0 (ix2 r k)) (fun k => x1 (ix2 0 k)) k := by
  pointwise [k0_pay1]
  rfl

theorem tile_apply (xs : Vec Ideal S1024x2048 .bf16) (r : Fin 1024) (d : Fin 2048) :
    k0_pay2 x0 xs x2 x3 x4 (ix2 r d) = x0 (ix2 r d) + ∑ q : Fin 512,
      Swiglu.act (fun k => xs (ix2 r k)) (fun k => x2 (ix2 k q)) (fun k => x3 (ix2 k q)) * x4 (ix2 q d) := by
  pointwise [k0_pay2]
  rfl

end Cert.FfnIdeal.Point

end
-- ==== Proof.Ffn.Sum.lean ====
/- The dense SwiGLU kernel's result: after its eleven tiles a block of 1024 rows holds `x + swiglu (norm x)`. -/
module

public import proofs.«01_k».proof.Proof.Ffn.Point

@[expose] public section

noncomputable section

open Idealize.ShloMosaic Idealize.ShloMosaic.TcCoe Idealize.SL.Sem
open scoped BigOperators

namespace Cert.FfnIdeal.Sum

open Cert.FfnIdeal Cert.FfnIdeal.Gen

/-- The share of hidden unit `f` in entry `(r, d)` of the layer. -/
def term (X : S8192x2048.Idx → EReal) (G : S1x2048.Idx → EReal) (Wg Wu : S2048x5632.Idx → EReal) (Wd : S5632x2048.Idx → EReal)
    (r : Fin 8192) (d : Fin 2048) (f : Fin 5632) : EReal :=
  Swiglu.act (fun k => Swiglu.norm (fun k => X (ix2 r k)) (fun k => G (ix2 0 k)) k) (fun k => Wg (ix2 k f)) (fun k => Wu (ix2 k f))
    * Wd (ix2 f d)

/-- The layer: `x + swiglu (norm x)`. -/
def layer (X : S8192x2048.Idx → EReal) (G : S1x2048.Idx → EReal) (Wg Wu : S2048x5632.Idx → EReal) (Wd : S5632x2048.Idx → EReal)
    (r : Fin 8192) (d : Fin 2048) : EReal :=
  X (ix2 r d) + ∑ f, term X G Wg Wu Wd r d f

variable (m : (ℓ : Loc nD τ sig) → Buf (Elt Ideal) ℓ) (c : Dev nD)

abbrev aX : S8192x2048.Idx → EReal := m ((c : Thread nD τ).loc main_arg0)
abbrev aG : S1x2048.Idx → EReal := m ((c : Thread nD τ).loc main_arg1)
abbrev aWg : S2048x5632.Idx → EReal := m ((c : Thread nD τ).loc main_arg2)
abbrev aWu : S2048x5632.Idx → EReal := m ((c : Thread nD τ).loc main_arg3)
abbrev aWd : S5632x2048.Idx → EReal := m ((c : Thread nD τ).loc main_arg4)

/-- The blocks' indices at a point: rows `t / 11`, tile `t % 11`. -/
theorem idx_facts : ∀ t : Fin cfg0.N,
    (win0_0.index t (0 : Fin 2) = t.val / 11 ∧ win0_0.index t (1 : Fin 2) = 0)
    ∧ (win0_1.index t (0 : Fin 2) = 0 ∧ win0_1.index t (1 : Fin 2) = 0)
    ∧ (win0_2.index t (0 : Fin 2) = 0 ∧ win0_2.index t (1 : Fin 2) = t.val % 11)
    ∧ (win0_3.index t (0 : Fin 2) = 0 ∧ win0_3.index t (1 : Fin 2) = t.val % 11)
    ∧ (win0_4.index t (0 : Fin 2) = t.val % 11 ∧ win0_4.index t (1 : Fin 2) = 0) :=
  (by decide +kernel : ∀ t : Fin grid0.N, _)

theorem lt88 (t : Fin cfg0.N) : t.val < 88 := lt_of_lt_of_eq t.isLt N_0

/-- The row of the array that a block's row is, and the hidden unit that a tile's is. -/
abbrev row (n : ℕ) (h : n < 88) (r : Fin 1024) : Fin 8192 := ⟨1024 * (n / 11) + r.val, by have := r.isLt; omega⟩
abbrev unit (n : ℕ) (h : n < 88) (q : Fin 512) : Fin 5632 := ⟨512 * (n % 11) + q.val, by have := q.isLt; omega⟩

theorem blk0 (t : Fin cfg0.N) (r : Fin 1024) (k : Fin 2048) :
    (iblk m c 0 t : Vec Ideal S1024x2048 .f32) (ix2 r k) = aX m c (ix2 (row t.val (lt88 t) r) k) := by
  obtain ⟨⟨e0, e1⟩, -⟩ := idx_facts t
  unfold iblk
  rw [View.read_apply]
  show V m c main_arg0 _ = _
  unfold V aX
  congr 1
  funext a
  apply Fin.ext
  match a with
  | ⟨0, _⟩ => show win0_0.index t 0 * 1024 + 1 * r.val = 1024 * (t.val / 11) + r.val; rw [e0]; omega
  | ⟨1, _⟩ => show win0_0.index t 1 * 2048 + 1 * k.val = k.val; rw [e1]; omega

theorem blk1 (t : Fin cfg0.N) (k : Fin 2048) :
    (iblk m c 1 t : Vec Ideal S1x2048 .f32) (ix2 0 k) = aG m c (ix2 0 k) := by
  obtain ⟨-, ⟨e0, e1⟩, -⟩ := idx_facts t
  unfold iblk
  rw [View.read_apply]
  show V m c main_arg1 _ = _
  unfold V aG
  congr 1
  funext a
  apply Fin.ext
  match a with
  | ⟨0, _⟩ => show win0_1.index t 0 * 1 + 1 * 0 = 0; rw [e0]
  | ⟨1, _⟩ => show win0_1.index t 1 * 2048 + 1 * k.val = k.val; rw [e1]; omega

theorem blk2 (t : Fin cfg0.N) (k : Fin 2048) (q : Fin 512) :
    (iblk m c 2 t : Vec Ideal S2048x512 .f32) (ix2 k q) = aWg m c (ix2 k (unit t.val (lt88 t) q)) := by
  obtain ⟨-, -, ⟨e0, e1⟩, -⟩ := idx_facts t
  unfold iblk
  rw [View.read_apply]
  show V m c main_arg2 _ = _
  unfold V aWg
  congr 1
  funext a
  apply Fin.ext
  match a with
  | ⟨0, _⟩ => show win0_2.index t 0 * 2048 + 1 * k.val = k.val; rw [e0]; omega
  | ⟨1, _⟩ => show win0_2.index t 1 * 512 + 1 * q.val = 512 * (t.val % 11) + q.val; rw [e1]; omega

theorem blk3 (t : Fin cfg0.N) (k : Fin 2048) (q : Fin 512) :
    (iblk m c 3 t : Vec Ideal S2048x512 .f32) (ix2 k q) = aWu m c (ix2 k (unit t.val (lt88 t) q)) := by
  obtain ⟨-, -, -, ⟨e0, e1⟩, -⟩ := idx_facts t
  unfold iblk
  rw [View.read_apply]
  show V m c main_arg3 _ = _
  unfold V aWu
  congr 1
  funext a
  apply Fin.ext
  match a with
  | ⟨0, _⟩ => show win0_3.index t 0 * 2048 + 1 * k.val = k.val; rw [e0]; omega
  | ⟨1, _⟩ => show win0_3.index t 1 * 512 + 1 * q.val = 512 * (t.val % 11) + q.val; rw [e1]; omega

theorem blk4 (t : Fin cfg0.N) (q : Fin 512) (d : Fin 2048) :
    (iblk m c 4 t : Vec Ideal S512x2048 .f32) (ix2 q d) = aWd m c (ix2 (unit t.val (lt88 t) q) d) := by
  obtain ⟨-, -, -, -, ⟨e0, e1⟩⟩ := idx_facts t
  unfold iblk
  rw [View.read_apply]
  show V m c main_arg4 _ = _
  unfold V aWd
  congr 1
  funext a
  apply Fin.ext
  match a with
  | ⟨0, _⟩ => show win0_4.index t 0 * 512 + 1 * q.val = 512 * (t.val % 11) + q.val; rw [e0]; omega
  | ⟨1, _⟩ => show win0_4.index t 1 * 2048 + 1 * d.val = d.val; rw [e1]; omega

abbrev tm (r : Fin 8192) (d : Fin 2048) : Fin 5632 → EReal := term (aX m c) (aG m c) (aWg m c) (aWu m c) (aWd m c) r d

/-- A point's tile of products, from the normalised rows. -/
theorem tile_at (t : Fin cfg0.N) (xs : Vec Ideal S1024x2048 .bf16)
    (hs : ∀ r k, xs (ix2 r k) = Swiglu.norm (fun k => aX m c (ix2 (row t.val (lt88 t) r) k)) (fun k => aG m c (ix2 0 k)) k)
    (r : Fin 1024) (d : Fin 2048) :
    (∑ q : Fin 512, Swiglu.act (fun k => xs (ix2 r k)) (fun k => (iblk m c 2 t : Vec Ideal S2048x512 .f32) (ix2 k q))
        (fun k => (iblk m c 3 t : Vec Ideal S2048x512 .f32) (ix2 k q)) * (iblk m c 4 t : Vec Ideal S512x2048 .f32) (ix2 q d))
      = Swiglu.tile 512 (tm m c (row t.val (lt88 t) r) d) (t.val % 11) := by
  refine Swiglu.tile_eq 512 _ _ (by omega) _ fun q h => ?_
  simp only [blk2, blk3, blk4, hs]
  rfl

/-- What the staging buffer and the scratch hold after point `n`. -/
theorem state (n : ℕ) : ∀ h : n < cfg0.N,
    (∀ r k, (outsAt0 m c n h).2 (ix2 r k)
      = Swiglu.norm (fun k => aX m c (ix2 (row n (lt88 ⟨n, h⟩) r) k)) (fun k => aG m c (ix2 0 k)) k)
    ∧ ∀ r d, (outsAt0 m c n h).1 (ix2 r d) = aX m c (ix2 (row n (lt88 ⟨n, h⟩) r) d)
        + ∑ j ∈ Finset.range (n % 11 + 1), Swiglu.tile 512 (tm m c (row n (lt88 ⟨n, h⟩) r) d) j := by
  have first : ∀ t : Fin cfg0.N, t.val % 11 = 0 →
      (∀ r k, (outsAt0 m c t.val t.isLt).2 (ix2 r k)
        = Swiglu.norm (fun k => aX m c (ix2 (row t.val (lt88 t) r) k)) (fun k => aG m c (ix2 0 k)) k)
      ∧ ∀ r d, (outsAt0 m c t.val t.isLt).1 (ix2 r d) = aX m c (ix2 (row t.val (lt88 t) r) d)
          + ∑ j ∈ Finset.range (t.val % 11 + 1), Swiglu.tile 512 (tm m c (row t.val (lt88 t) r) d) j := by
    intro t h0
    have hs : ∀ r k, k0_pay1 (iblk m c 0 t : Vec Ideal S1024x2048 .f32) (iblk m c 1 t : Vec Ideal S1x2048 .f32) (ix2 r k)
        = Swiglu.norm (fun k => aX m c (ix2 (row t.val (lt88 t) r) k)) (fun k => aG m c (ix2 0 k)) k := by
      intro r k
      rw [Point.norm_apply]
      simp only [blk0, blk1]
    rw [outsAt0_A m c t h0]
    dsimp only
    rw [Point.sout_A, Point.out_A]
    refine ⟨hs, fun r d => ?_⟩
    rw [Point.tile_apply, blk0, tile_at m c t _ hs, h0, Finset.sum_range_one]
  induction n with
  | zero => exact fun h => first ⟨0, h⟩ rfl
  | succ n ih =>
    intro h
    by_cases h0 : (n + 1) % 11 = 0
    · exact first ⟨n + 1, h⟩ h0
    · obtain ⟨ih2, ih1⟩ := ih (Nat.lt_of_succ_lt h)
      have h88 := lt88 ⟨n + 1, h⟩
      have hr : ∀ r, row n (lt88 ⟨n, Nat.lt_of_succ_lt h⟩) r = row (n + 1) h88 r := fun r => by
        apply Fin.ext; show 1024 * (n / 11) + r.val = 1024 * ((n + 1) / 11) + r.val
        have : n / 11 = (n + 1) / 11 := by omega
        rw [this]
      simp only [hr] at ih1 ih2
      rw [outsAt0_B m c ⟨n + 1, h⟩ h0]
      dsimp only
      rw [Point.sout_B, Point.out_B]
      refine ⟨ih2, fun r d => ?_⟩
      rw [Point.tile_apply]
      refine (congrArg₂ (· + ·) (ih1 r d) (tile_at m c ⟨n + 1, h⟩ _ ih2 r d)).trans ?_
      rw [add_assoc]
      congr 1
      have e : (n + 1) % 11 = n % 11 + 1 := by omega
      show _ + Swiglu.tile 512 _ ((n + 1) % 11) = _
      rw [e, Finset.sum_range_succ _ (n % 11 + 1)]

/-- The result array: the layer. -/
theorem result (r : Fin 8192) (d : Fin 2048) :
    (Cert.FfnIdeal.Value.G5 m c : S8192x2048.Idx → EReal) (ix2 r d)
      = layer (aX m c) (aG m c) (aWg m c) (aWu m c) (aWd m c) r d := by
  have hr := r.isLt
  have hd := d.isLt
  have hp : Cert.FfnIdeal.Value.pt5Of (ix2 r d) = 11 * (r.val / 1024) + 10 := by
    show 11 * (1 * (r.val / 1024 - 0) + 1 * (d.val / 2048 - 0)) + 10 = _
    omega
  have hlt : 11 * (r.val / 1024) + 10 < cfg0.N := lt_of_lt_of_eq (by omega) N_0.symm
  unfold Cert.FfnIdeal.Value.G5
  rw [dif_pos (by rw [hp]; exact hlt), Cert.FfnIdeal.Value.fold0_congr m c _ _ (11 * (r.val / 1024) + 10) (by omega) hp,
    ← Cert.FfnIdeal.Value.outsAt0_sweep m c _ hlt]
  have hl : Cert.FfnIdeal.Value.loc5Of (ix2 r d) = ix2 (⟨r.val % 1024, by omega⟩ : Fin 1024) d := by
    funext a
    apply Fin.ext
    match a with
    | ⟨0, _⟩ => rfl
    | ⟨1, _⟩ => show d.val % 2048 = d.val; omega
  rw [hl, (state m c _ hlt).2]
  have hrow : row (11 * (r.val / 1024) + 10) (lt88 ⟨_, hlt⟩) ⟨r.val % 1024, by omega⟩ = r := by
    apply Fin.ext
    show 1024 * ((11 * (r.val / 1024) + 10) / 11) + r.val % 1024 = r.val
    omega
  rw [hrow, show (11 * (r.val / 1024) + 10) % 11 + 1 = 11 from by omega, Swiglu.sum_tiles 512 11 rfl]
  rfl

end Cert.FfnIdeal.Sum

end
-- ==== Proof.Ffn.Reference.lean ====
/- The dense SwiGLU's reference, element by element: `x + swiglu (norm x)`. -/
module

public import proofs.«01_k».proof.Proof.Ffn.Sum
public import proofs.«01_k».proof.Proof.Gen.FfnReferenceIdeal.Run
public import proofs.«01_k».proof.Proof.Gen.FfnReferenceIdeal.Read

@[expose] public section

noncomputable section

open Idealize.ShloMosaic Idealize.ShloMosaic.TcCoe Idealize.SL.Sem

namespace Cert.FfnReferenceIdeal.Sum

open Cert.FfnReferenceIdeal Cert.FfnReferenceIdeal.Gen Cert.FfnReferenceIdeal.Read

theorem hidden (X : S8192x2048.Idx → EReal) (G : S1x2048.Idx → EReal) (r : Fin 8192) (k : Fin 2048) :
    val_main_v11 (F := Ideal) X G (ix2 r k) = Swiglu.norm (fun k => X (ix2 r k)) (fun k => G (ix2 0 k)) k := by
  pointwise [val_main_v11, val_main_v10, val_main_v9, val_main_v8, val_main_v7, val_main_v6, val_main_v5, val_main_v4, val_main_v3,
    val_main_v2, val_main_v1, val_main_v0, val_main_cst, val_main_cst_0, val_main_cst_1]
  rfl

theorem result (X : S8192x2048.Idx → EReal) (G : S1x2048.Idx → EReal) (Wg Wu : S2048x5632.Idx → EReal)
    (Wd : S5632x2048.Idx → EReal) (r : Fin 8192) (d : Fin 2048) :
    val_main_v17 (F := Ideal) X G Wg Wu Wd (ix2 r d) = Cert.FfnIdeal.Sum.layer X G Wg Wu Wd r d := by
  pointwise [val_main_v17, val_main_v16, val_main_v15, val_main_v14, val_main_v13, val_main_v12, val_main_call0_v0,
    val_main_call0_v1, val_main_call0_v2, val_main_call0_v3, val_main_call0_v4, val_main_call0_v5, val_main_call0_cst,
    val_main_call0_cst_0]
  simp only [hidden]
  rfl

end Cert.FfnReferenceIdeal.Sum

end
-- ==== Proof.Ffn.Claims.lean ====
/- The dense SwiGLU layer's claims: the frames, and the equality of the kernel's result with the reference's. -/
module

public import proofs.«01_k».proof.Defs
public import proofs.«01_k».proof.Proof.Gen.Ffn.Frame
public import proofs.«01_k».proof.Proof.Ffn.Reference

@[expose] public section

noncomputable section

open Idealize.ShloMosaic Idealize.ShloMosaic.TcCoe Idealize.SL.Sem

namespace Cert.FfnClaims

/-- The reference has no semaphore and writes none of its arguments. -/
theorem frame_reference : Cert.quiescent_FfnReferenceIdeal := fun m ρ _ =>
  (θ_run Cert.FfnReferenceIdeal.defs _ _).mono (fun r h =>
      ⟨fun c => (h c).2, Idealize.ShloMosaic.sem_eq_zero_of_no_sems (by decide) r.2⟩)
    (Cert.FfnReferenceIdeal.Value.run (F := Ideal) m ρ)

/-- Both programs' results are `layer` of the same five arguments. -/
theorem algebraic : Cert.algebraic_FfnIdeal_FfnReferenceIdeal := by
  intro m ρ m' ρ' _ hagree
  refine ⟨fun c => Cert.FfnIdeal.Value.G5 m c, Cert.FfnIdeal.Value.run m ρ, ?_⟩
  refine (θ_run Cert.FfnReferenceIdeal.defs _ _).mono (fun _ h c => ⟨(h c).1.trans ?_, (h c).2⟩)
    (Cert.FfnReferenceIdeal.Value.run (F := Ideal) m' ρ')
  obtain ⟨h0, h1, h2, h3, h4⟩ := hagree c
  refine (Cert.FfnReferenceIdeal.Read.val_main_v17_eq (F := Ideal) _ _ _ _ _).trans ?_
  rw [h0, h1, h2, h3, h4]
  funext i
  rw [eq_ix2 i]
  exact (Cert.FfnReferenceIdeal.Sum.result _ _ _ _ _ (i 0) (i 1)).trans
    (Cert.FfnIdeal.Sum.result m c (i 0) (i 1)).symm

end Cert.FfnClaims

end
-- ==== Proof.OutProj.Kernel.lean ====
/- The output projection's kernel: its result is `x + (o_a w_a + o_b w_b)`, entry by entry. -/
module

public import proofs.«01_k».proof.Proof.Gen.OutProjIdeal.Value
public import Idealize.ShloMosaic.Lib.Pipeline.Value
public import Idealize.ShloMosaic.Lib.Tactic
public import Idealize.ShloMosaic.Lib.Pointwise

@[expose] public section

noncomputable section

open Idealize.ShloMosaic Idealize.ShloMosaic.TcCoe Idealize.SL.Sem
open scoped BigOperators

namespace Cert.OutProjIdeal.Kernel

open Cert.OutProjIdeal Cert.OutProjIdeal.Gen

/-- The projection: `x + (o_a w_a + o_b w_b)`. -/
def proj (X : S8192x2048.Idx → EReal) (Oa Ob : S8192x1024.Idx → EReal) (Wa Wb : S1024x2048.Idx → EReal) (r : Fin 8192) (d : Fin 2048) : EReal :=
  X (ix2 r d) + ((∑ k : Fin 1024, Oa (ix2 r k) * Wa (ix2 k d)) + ∑ k : Fin 1024, Ob (ix2 r k) * Wb (ix2 k d))

theorem hz : (![0, 0] : Fin 2 → Nat) = fun _ => 0 := funext fun a => by fin_cases a <;> rfl

/-- What a grid point leaves in the output's block. -/
theorem point (x0 : Vec Ideal S512x2048 .f32) (x1 x2 : Vec Ideal S512x1024 .bf16) (x3 x4 : Vec Ideal S1024x2048 .bf16)
    (r : Fin 512) (d : Fin 2048) :
    out0_5 x0 x1 x2 x3 x4 (ix2 r d) = x0 (ix2 r d)
      + ((∑ k : Fin 1024, x1 (ix2 r k) * x3 (ix2 k d)) + ∑ k : Fin 1024, x2 (ix2 r k) * x4 (ix2 k d)) := by
  unfold out0_5
  rw [View.canon_cons_unit_zero (S := S512x2048) hz]
  simp only [View.ld_unit_zero (S := S512x2048) hz, View.ld_unit_zero (S := S512x1024) hz, View.ld_unit_zero (S := S1024x2048) hz]
  pointwise [k0_pay1]
  exact add_assoc _ _ _

variable (m : (ℓ : Loc nD τ sig) → Buf (Elt Ideal) ℓ) (c : Dev nD)

abbrev aX : S8192x2048.Idx → EReal := m ((c : Thread nD τ).loc main_arg0)
abbrev aOa : S8192x1024.Idx → EReal := m ((c : Thread nD τ).loc main_arg1)
abbrev aOb : S8192x1024.Idx → EReal := m ((c : Thread nD τ).loc main_arg2)
abbrev aWa : S1024x2048.Idx → EReal := m ((c : Thread nD τ).loc main_arg3)
abbrev aWb : S1024x2048.Idx → EReal := m ((c : Thread nD τ).loc main_arg4)

/-- The blocks' indices at a point: its 512 rows, and the weights whole. -/
theorem idx_facts : ∀ t : Fin cfg0.N,
    (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = t.val ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = t.val ∧ win0_5.index t (1 : Fin 2) = 0) ∧ (cfg0.win 5).flush t = true :=
  (by decide +kernel : ∀ t : Fin grid0.N, _)

theorem lt16 (t : Fin cfg0.N) : t.val < 16 := lt_of_lt_of_eq t.isLt N_0

/-- The row of the array that a block's row is. -/
abbrev row (n : ℕ) (h : n < 16) (r : Fin 512) : Fin 8192 := ⟨512 * n + r.val, by have := r.isLt; omega⟩

theorem blk0 (t : Fin cfg0.N) (r : Fin 512) (k : Fin 2048) :
    (iblk m c 0 t : Vec Ideal S512x2048 .f32) (ix2 r k) = aX m c (ix2 (row t.val (lt16 t) r) k) := by
  obtain ⟨⟨e0, e1⟩, -⟩ := idx_facts t
  unfold iblk
  rw [View.read_apply]
  show V m c main_arg0 _ = _
  unfold V aX
  congr 1
  funext a
  apply Fin.ext
  match a with
  | ⟨0, _⟩ => show win0_0.index t 0 * 512 + 1 * r.val = 512 * t.val + r.val; rw [e0]; omega
  | ⟨1, _⟩ => show win0_0.index t 1 * 2048 + 1 * k.val = k.val; rw [e1]; omega

theorem blk1 (t : Fin cfg0.N) (r : Fin 512) (k : Fin 1024) :
    (iblk m c 1 t : Vec Ideal S512x1024 .bf16) (ix2 r k) = aOa m c (ix2 (row t.val (lt16 t) r) k) := by
  obtain ⟨-, ⟨e0, e1⟩, -⟩ := idx_facts t
  unfold iblk
  rw [View.read_apply]
  show V m c main_arg1 _ = _
  unfold V aOa
  congr 1
  funext a
  apply Fin.ext
  match a with
  | ⟨0, _⟩ => show win0_1.index t 0 * 512 + 1 * r.val = 512 * t.val + r.val; rw [e0]; omega
  | ⟨1, _⟩ => show win0_1.index t 1 * 1024 + 1 * k.val = k.val; rw [e1]; omega

theorem blk2 (t : Fin cfg0.N) (r : Fin 512) (k : Fin 1024) :
    (iblk m c 2 t : Vec Ideal S512x1024 .bf16) (ix2 r k) = aOb m c (ix2 (row t.val (lt16 t) r) k) := by
  obtain ⟨-, -, ⟨e0, e1⟩, -⟩ := idx_facts t
  unfold iblk
  rw [View.read_apply]
  show V m c main_arg2 _ = _
  unfold V aOb
  congr 1
  funext a
  apply Fin.ext
  match a with
  | ⟨0, _⟩ => show win0_2.index t 0 * 512 + 1 * r.val = 512 * t.val + r.val; rw [e0]; omega
  | ⟨1, _⟩ => show win0_2.index t 1 * 1024 + 1 * k.val = k.val; rw [e1]; omega

theorem blk3 (t : Fin cfg0.N) (k : Fin 1024) (d : Fin 2048) :
    (iblk m c 3 t : Vec Ideal S1024x2048 .bf16) (ix2 k d) = aWa m c (ix2 k d) := by
  obtain ⟨-, -, -, ⟨e0, e1⟩, -⟩ := idx_facts t
  unfold iblk
  rw [View.read_apply]
  show V m c main_arg3 _ = _
  unfold V aWa
  congr 1
  funext a
  apply Fin.ext
  match a with
  | ⟨0, _⟩ => show win0_3.index t 0 * 1024 + 1 * k.val = k.val; rw [e0]; omega
  | ⟨1, _⟩ => show win0_3.index t 1 * 2048 + 1 * d.val = d.val; rw [e1]; omega

theorem blk4 (t : Fin cfg0.N) (k : Fin 1024) (d : Fin 2048) :
    (iblk m c 4 t : Vec Ideal S1024x2048 .bf16) (ix2 k d) = aWb m c (ix2 k d) := by
  obtain ⟨-, -, -, -, ⟨e0, e1⟩, -⟩ := idx_facts t
  unfold iblk
  rw [View.read_apply]
  show V m c main_arg4 _ = _
  unfold V aWb
  congr 1
  funext a
  apply Fin.ext
  match a with
  | ⟨0, _⟩ => show win0_4.index t 0 * 1024 + 1 * k.val = k.val; rw [e0]; omega
  | ⟨1, _⟩ => show win0_4.index t 1 * 2048 + 1 * d.val = d.val; rw [e1]; omega

/-- The result array after the run: the projection. -/
theorem result (r : Fin 8192) (d : Fin 2048) :
    ((dats m 0 c).arrAt 5 cfg0.N : S8192x2048.Idx → EReal) (ix2 r d) = proj (aX m c) (aOa m c) (aOb m c) (aWa m c) (aWb m c) r d := by
  have hr := r.isLt
  have hlt : r.val / 512 < cfg0.N := lt_of_lt_of_eq (by omega) N_0.symm
  obtain ⟨t, ht⟩ : ∃ t : Fin cfg0.N, t.val = r.val / 512 := ⟨⟨_, hlt⟩, rfl⟩
  obtain ⟨-, -, -, -, -, ⟨e0, e1⟩, hf⟩ := idx_facts t
  have hrow : row t.val (lt16 t) ⟨r.val % 512, by omega⟩ = r := Fin.ext (by show 512 * t.val + r.val % 512 = r.val; omega)
  have hb := congrFun (Cert.OutProjIdeal.Value.blocks5 m c t hf) (ix2 (⟨r.val % 512, by omega⟩ : Fin 512) d)
  rw [Cert.OutProjIdeal.Value.flushed5, View.read_apply] at hb
  have hi : (((cfg0.win 5).blk t).view.emb (ix2 (⟨r.val % 512, by omega⟩ : Fin 512) d) : S8192x2048.Idx) = ix2 r d := by
    funext a
    apply Fin.ext
    match a with
    | ⟨0, _⟩ => show win0_5.index t 0 * 512 + 1 * (r.val % 512) = r.val; rw [e0]; omega
    | ⟨1, _⟩ => show win0_5.index t 1 * 2048 + 1 * d.val = d.val; rw [e1]; omega
  refine (congrArg ((dats m 0 c).arrAt 5 cfg0.N : S8192x2048.Idx → EReal) hi).symm.trans (hb.trans ?_)
  refine (point (iblk m c 0 t) (iblk m c 1 t) (iblk m c 2 t) (iblk m c 3 t) (iblk m c 4 t) ⟨r.val % 512, by omega⟩ d).trans ?_
  simp only [blk0, blk1, blk2, blk3, blk4, hrow]
  rfl

end Cert.OutProjIdeal.Kernel

end
-- ==== Proof.OutProj.Reference.lean ====
/- The output projection's reference, entry by entry: the sum over both groups' heads is the sum of the two groups' sums. -/
module

public import proofs.«01_k».proof.Proof.OutProj.Kernel
public import proofs.«01_k».proof.Proof.Gen.OutProjReferenceIdeal.Run
public import proofs.«01_k».proof.Proof.Gen.OutProjReferenceIdeal.Read

@[expose] public section

noncomputable section

open Idealize.ShloMosaic Idealize.ShloMosaic.TcCoe Idealize.SL.Sem
open scoped BigOperators

namespace Cert.OutProjReferenceIdeal.Reference

open Cert.OutProjReferenceIdeal Cert.OutProjReferenceIdeal.Gen Cert.OutProjReferenceIdeal.Read

theorem heads (Oa Ob : S8192x1024.Idx → EReal) (r : Fin 8192) (k : Fin 2048) : val_main_v1 (F := Ideal) Oa Ob (ix2 r k)
    = if h : k.val < 1024 then Oa (ix2 r ⟨k.val, h⟩) else Ob (ix2 r ⟨k.val - 1024, by have := k.isLt; omega⟩) := by
  pointwise [val_main_v1, val_main_v0]

theorem weights (Wa Wb : S1024x2048.Idx → EReal) (k d : Fin 2048) : val_main_v3 (F := Ideal) Wa Wb (ix2 k d)
    = if h : k.val < 1024 then Wa (ix2 ⟨k.val, h⟩ d) else Wb (ix2 ⟨k.val - 1024, by have := k.isLt; omega⟩ d) := by
  pointwise [val_main_v3, val_main_v2]

theorem result (X : S8192x2048.Idx → EReal) (Oa Ob : S8192x1024.Idx → EReal) (Wa Wb : S1024x2048.Idx → EReal) (r : Fin 8192) (d : Fin 2048) :
    val_main_v5 (F := Ideal) X Oa Ob Wa Wb (ix2 r d) = Cert.OutProjIdeal.Kernel.proj X Oa Ob Wa Wb r d := by
  have e : val_main_v5 (F := Ideal) X Oa Ob Wa Wb (ix2 r d)
      = X (ix2 r d) + ∑ k : Fin 2048, val_main_v1 (F := Ideal) Oa Ob (ix2 r k) * val_main_v3 (F := Ideal) Wa Wb (ix2 k d) := by
    pointwise [val_main_v5, val_main_v4]
  rw [e]
  unfold Cert.OutProjIdeal.Kernel.proj
  congr 1
  simp only [heads, weights]
  refine (Fin.sum_univ_add (a := 1024) (b := 1024) _).trans (congrArg₂ (· + ·) ?_ ?_)
  · refine Finset.sum_congr rfl fun k _ => ?_
    have hk : (Fin.castAdd 1024 k).val < 1024 := k.isLt
    rw [dif_pos hk, dif_pos hk]
    rfl
  · refine Finset.sum_congr rfl fun k _ => ?_
    have hk : ¬ (Fin.natAdd 1024 k).val < 1024 := by show ¬ 1024 + k.val < 1024; omega
    have hk' : (⟨(Fin.natAdd 1024 k).val - 1024, by show 1024 + k.val - 1024 < 1024; have := k.isLt; omega⟩ : Fin 1024) = k :=
      Fin.ext (by show 1024 + k.val - 1024 = k.val; omega)
    rw [dif_neg hk, dif_neg hk, hk']

end Cert.OutProjReferenceIdeal.Reference

end
-- ==== Proof.OutProj.Claims.lean ====
/- The output projection's claims: the reference's frame, and the equality of the kernel's result with the reference's. -/
module

public import proofs.«01_k».proof.Defs
public import proofs.«01_k».proof.Proof.Gen.OutProj.Frame
public import proofs.«01_k».proof.Proof.OutProj.Reference

@[expose] public section

noncomputable section

open Idealize.ShloMosaic Idealize.ShloMosaic.TcCoe Idealize.SL.Sem

namespace Cert.OutProjClaims

/-- The reference has no semaphore and writes none of its arguments. -/
theorem frame_reference : Cert.quiescent_OutProjReferenceIdeal := fun m ρ _ =>
  (θ_run Cert.OutProjReferenceIdeal.defs _ _).mono (fun r h =>
      ⟨fun c => (h c).2, Idealize.ShloMosaic.sem_eq_zero_of_no_sems (by decide) r.2⟩)
    (Cert.OutProjReferenceIdeal.Value.run (F := Ideal) m ρ)

/-- Both programs' results are `proj` of the same five arguments. -/
theorem algebraic : Cert.algebraic_OutProjIdeal_OutProjReferenceIdeal := by
  intro m ρ m' ρ' _ hagree
  refine ⟨fun c => (Cert.OutProjIdeal.Gen.dats m 0 c).arrAt 5 Cert.OutProjIdeal.cfg0.N, Cert.OutProjIdeal.Value.run_blocks m ρ, ?_⟩
  refine (θ_run Cert.OutProjReferenceIdeal.defs _ _).mono (fun _ h c => ⟨(h c).1.trans ?_, (h c).2⟩)
    (Cert.OutProjReferenceIdeal.Value.run (F := Ideal) m' ρ')
  obtain ⟨h0, h1, h2, h3, h4⟩ := hagree c
  refine (Cert.OutProjReferenceIdeal.Read.val_main_v5_eq (F := Ideal) _ _ _ _ _).trans ?_
  rw [h0, h1, h2, h3, h4]
  funext i
  rw [eq_ix2 i]
  exact (Cert.OutProjReferenceIdeal.Reference.result _ _ _ _ _ (i 0) (i 1)).trans
    (Cert.OutProjIdeal.Kernel.result m c (i 0) (i 1)).symm

end Cert.OutProjClaims

end
-- ==== Proof.FoxIdeal.Tables.lean ====
/- The attention's precondition, read: its two tables are the pairs (a, b) with b ≤ a < 16, in order. -/
module

public import proofs.«01_k».proof.Proof.Gen.Pre_attends
public import Idealize.ShloMosaic.Lib.Affine

@[expose] public section

noncomputable section

namespace Cert.FoxTables

open Idealize.ShloMosaic Cert.Pre_attends

variable {F : FTy → Type} [FloatOps F]

/-- The four conjuncts of the precondition at one entry of the tables. -/
theorem conj (a0 a1 : IVec S136 32) (a2 a3 a4 : FVec F S8x8192x1024 .bf16) (a5 : FVec F S2x16x1024x512 .bf16) (a6 : FVec F S8x8192x128 .f32)
    (h : fn (F := F) a0 a1 a2 a3 a4 a5 a6 = fun _ => 1#1) (j : S136.Idx) :
    0 ≤ (a1 j).toInt ∧ (a1 j).toInt ≤ (a0 j).toInt ∧ (a0 j).toInt ≤ 15
      ∧ a0 j * (a0 j + 1#32) + 2#32 * a1 j = 2#32 * BitVec.ofNat 32 (j 0).val := by
  have hj := congrFun h j
  unfold fn at hj
  simp only [andi, IntOp.andi_eq_one] at hj
  obtain ⟨⟨⟨h0, h1⟩, h2⟩, h3⟩ := hj
  refine ⟨?_, ?_, ?_, ?_⟩
  · exact IntOp.cmpi_sge.mp h0
  · exact IntOp.cmpi_sle.mp h1
  · exact IntOp.cmpi_sle.mp h2
  · exact IntOp.cmpi_eq.mp h3

theorem word (x : BitVec 32) (h0 : 0 ≤ x.toInt) (h1 : x.toInt ≤ 15) : ∃ n, n < 16 ∧ x = BitVec.ofNat 32 n ∧ x.toInt = n := by
  have h := BitVec.toInt_eq_toNat_cond x
  have hl := x.isLt
  have hx : x.toNat < 16 ∧ x.toInt = x.toNat := by split at h <;> omega
  exact ⟨x.toNat, hx.1, (BitVec.ofNat_toNat 32 x).symm ▸ by simp, hx.2⟩

/-- The pair an entry of the tables holds. -/
theorem pair (a0 a1 : IVec S136 32) (a2 a3 a4 : FVec F S8x8192x1024 .bf16) (a5 : FVec F S2x16x1024x512 .bf16) (a6 : FVec F S8x8192x128 .f32)
    (h : fn (F := F) a0 a1 a2 a3 a4 a5 a6 = fun _ => 1#1) (j : S136.Idx) :
    ∃ a b : ℕ, a < 16 ∧ b ≤ a ∧ a0 j = BitVec.ofNat 32 a ∧ a1 j = BitVec.ofNat 32 b ∧ a * (a + 1) / 2 + b = (j 0).val := by
  obtain ⟨h0, h1, h2, h3⟩ := conj a0 a1 a2 a3 a4 a5 a6 h j
  obtain ⟨a, ha, ea, ia⟩ := word (a0 j) (h0.trans h1) h2
  obtain ⟨b, hb, eb, ib⟩ := word (a1 j) h0 (h1.trans h2)
  refine ⟨a, b, ha, by omega, ea, eb, ?_⟩
  rw [ea, eb] at h3
  have h4 := congrArg BitVec.toNat h3
  have hj : (j 0).val < 136 := (j 0).isLt
  have ht : (a * (a + 1)) % 2 = 0 := Nat.even_iff.mp (Nat.even_mul_succ_self a)
  have hs : a * (a + 1) ≤ 15 * 16 := Nat.mul_le_mul (by omega) (by omega)
  simp only [BitVec.toNat_add, BitVec.toNat_mul, BitVec.toNat_ofNat] at h4
  rw [Nat.mod_eq_of_lt (show a < 2 ^ 32 by omega), Nat.mod_eq_of_lt (show b < 2 ^ 32 by omega),
    Nat.mod_eq_of_lt (show (j 0).val < 2 ^ 32 by omega), Nat.mod_eq_of_lt (show a + 1 % 2 ^ 32 < 2 ^ 32 by omega)] at h4
  rw [show 1 % 2 ^ 32 = 1 from rfl, show 2 % 2 ^ 32 = 2 from rfl] at h4
  omega

end Cert.FoxTables

end
-- ==== Proof.FoxIdeal.Pinned.lean ====
/- The attention's tables are the launch's: the pairs (a, b) with b ≤ a < 16, in order. -/
module

public import proofs.«01_k».proof.Proof.FoxIdeal.Tables
public import proofs.«01_k».proof.Proof.Gen.Fox.Flash
public import proofs.«01_k».proof.Proof.Gen.FoxIdeal.Flash

@[expose] public section

noncomputable section

namespace Cert.FoxPinned

open Idealize.ShloMosaic Idealize.ShloMosaic.TcCoe

/-- The first table by pairs. -/
theorem tab0 : ∀ a : Fin 16, ∀ b : Fin 16, b.val ≤ a.val → ∀ x : Cert.FoxIdeal.S136.Idx, a.val * (a.val + 1) / 2 + b.val = (x 0).val →
    Cert.FoxIdeal.Gen.pinT_0 0 x = BitVec.ofNat 32 a.val := by
  intro a b h x hx
  unfold Cert.FoxIdeal.Gen.pinT_0
  rw [← hx]
  clear hx x
  revert a b
  decide

/-- The second table by pairs. -/
theorem tab1 : ∀ a : Fin 16, ∀ b : Fin 16, b.val ≤ a.val → ∀ x : Cert.FoxIdeal.S136.Idx, a.val * (a.val + 1) / 2 + b.val = (x 0).val →
    Cert.FoxIdeal.Gen.pinT_1 0 x = BitVec.ofNat 32 b.val := by
  intro a b h x hx
  unfold Cert.FoxIdeal.Gen.pinT_1
  rw [← hx]
  clear hx x
  revert a b
  decide

theorem ideal (m : (ℓ : Loc Cert.FoxIdeal.nD Cert.FoxIdeal.τ Cert.FoxIdeal.sig) → Buf (Elt Ideal) ℓ) (h : Cert.Pre_FoxIdeal m) :
    Cert.FoxIdeal.Gen.Pinned 0 m := by
  constructor
  · intro c; funext j
    obtain ⟨a, b, ha, hb, e, -, hp⟩ := Cert.FoxTables.pair _ _ _ _ _ _ _ (h c) j
    exact e.trans (tab0 ⟨a, ha⟩ ⟨b, by omega⟩ hb j hp).symm
  · intro c; funext j
    obtain ⟨a, b, ha, hb, -, e, hp⟩ := Cert.FoxTables.pair _ _ _ _ _ _ _ (h c) j
    exact e.trans (tab1 ⟨a, ha⟩ ⟨b, by omega⟩ hb j hp).symm

theorem bits (m : (ℓ : Loc Cert.Fox.nD Cert.Fox.τ Cert.Fox.sig) → Buf (Elt Bits) ℓ) (h : Cert.Pre_Fox m) :
    Cert.Fox.Gen.Pinned 0 m := by
  constructor
  · intro c; funext j
    obtain ⟨a, b, ha, hb, e, -, hp⟩ := Cert.FoxTables.pair _ _ _ _ _ _ _ (h c) j
    exact e.trans (tab0 ⟨a, ha⟩ ⟨b, by omega⟩ hb j hp).symm
  · intro c; funext j
    obtain ⟨a, b, ha, hb, -, e, hp⟩ := Cert.FoxTables.pair _ _ _ _ _ _ _ (h c) j
    exact e.trans (tab1 ⟨a, ha⟩ ⟨b, by omega⟩ hb j hp).symm

end Cert.FoxPinned

end
-- ==== Proof.FoxIdeal.Claims.lean ====
/- The forgetting attention's claims: the frames of its kernel and of its reference, and the mask's ideal reading. -/
module

public import proofs.«01_k».proof.Defs
public import proofs.«01_k».proof.Proof.FoxIdeal.Pinned
public import proofs.«01_k».proof.Proof.Gen.FoxReferenceIdeal.Run

@[expose] public section

noncomputable section

open Idealize.ShloMosaic Idealize.ShloMosaic.TcCoe Idealize.SL.Sem

namespace Cert.FoxClaims

/-- With the tables the precondition states, the launch runs through. -/
theorem frame : Cert.quiescent_Fox := fun m ρ h => Cert.Fox.Gen.frame 0 m ρ (Cert.FoxPinned.bits m h)

theorem frame_ideal : Cert.quiescent_FoxIdeal := fun m ρ h => Cert.FoxIdeal.Gen.frame 0 m ρ (Cert.FoxPinned.ideal m h)

/-- The reference has no semaphore and writes none of its arguments. -/
theorem frame_reference : Cert.quiescent_FoxReferenceIdeal := fun m ρ _ =>
  (θ_run Cert.FoxReferenceIdeal.defs _ _).mono (fun r h =>
      ⟨fun c => (h c).2, Idealize.ShloMosaic.sem_eq_zero_of_no_sems (by decide) r.2⟩)
    (Cert.FoxReferenceIdeal.Value.run (F := Ideal) m ρ)

/-- The mask is read as minus infinity. -/
theorem preserves : Cert.preserves_Fox_FoxIdeal :=
  IdealRules.named_const.statement Cert.FoxIdeal.κ "mask" .f32 0xF149F2CA#32 ⊥ rfl

end Cert.FoxClaims

end
-- ==== Proof.lean ====
module

public import proofs.«01_k».proof.Defs
public import proofs.«01_k».proof.Proof.Gen.Experts.Launch
public import proofs.«01_k».proof.Proof.Gen.ExpertsIdeal.Launch
public import proofs.«01_k».proof.Proof.Gen.Experts.Skeleton
public import proofs.«01_k».proof.Proof.Gen.ExpertsIdeal.Skeleton
public import proofs.«01_k».proof.Proof.Gen.ExpertsReferenceIdeal.Run
public import proofs.«01_k».proof.Proof.Gen.ExpertsReferenceIdeal.Read
public import proofs.«01_k».proof.Proof.Gen.Ffn.Frame
public import proofs.«01_k».proof.Proof.Gen.FfnIdeal.Value
public import proofs.«01_k».proof.Proof.Gen.FfnReferenceIdeal.Run
public import proofs.«01_k».proof.Proof.Gen.FfnReferenceIdeal.Read
public import proofs.«01_k».proof.Proof.Gen.Fox.Flash
public import proofs.«01_k».proof.Proof.Gen.FoxIdeal.Flash
public import proofs.«01_k».proof.Proof.Gen.OutProj.Frame
public import proofs.«01_k».proof.Proof.Gen.OutProjIdeal.Value
public import proofs.«01_k».proof.Proof.Gen.OutProjReferenceIdeal.Run
public import proofs.«01_k».proof.Proof.Gen.OutProjReferenceIdeal.Read
public import proofs.«01_k».proof.Proof.Gen.Pre_attends
public import proofs.«01_k».proof.Proof.Gen.FoxReferenceIdeal.Run
public import proofs.«01_k».proof.Proof.Experts.Claims
public import proofs.«01_k».proof.Proof.Ffn.Claims
public import proofs.«01_k».proof.Proof.OutProj.Claims
public import proofs.«01_k».proof.Proof.FoxIdeal.Claims

@[expose] public section

noncomputable section

namespace Cert.Proof

open Idealize.ShloMosaic Idealize.SL.Sem

theorem claim : Cert.Claim := ⟨Cert.Experts.Gen.facts, Cert.ExpertsIdeal.Gen.facts, Cert.ExpertsReferenceIdeal.Gen.facts,
  Cert.Ffn.Gen.facts, Cert.FfnIdeal.Gen.facts, Cert.FfnReferenceIdeal.Gen.facts,
  Cert.Fox.Gen.facts, Cert.FoxIdeal.Gen.facts, Cert.FoxReferenceIdeal.Gen.facts,
  Cert.OutProj.Gen.facts, Cert.OutProjIdeal.Gen.facts, Cert.OutProjReferenceIdeal.Gen.facts,
  Cert.Pre_experts.Gen.facts, Cert.Pre_attends.Gen.facts,
  Cert.ExpertsClaims.frame, Cert.ExpertsClaims.frame_ideal, Cert.ExpertsClaims.frame_reference,
  fun m ρ _ => Cert.Ffn.Gen.frame m ρ, fun m ρ _ => Cert.FfnIdeal.Gen.frame m ρ, Cert.FfnClaims.frame_reference,
  Cert.FoxClaims.frame, Cert.FoxClaims.frame_ideal, Cert.FoxClaims.frame_reference,
  fun m ρ _ => Cert.OutProj.Gen.frame m ρ, fun m ρ _ => Cert.OutProjIdeal.Gen.frame m ρ, Cert.OutProjClaims.frame_reference,
  trivial, Cert.ExpertsClaims.algebraic, trivial, Cert.FfnClaims.algebraic, Cert.FoxClaims.preserves,
  trivial, Cert.OutProjClaims.algebraic⟩

end Cert.Proof

end
